-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S32768x5120 : Shape := ⟨2, ![32768, 5120]⟩
abbrev S4x64 : Shape := ⟨2, ![4, 64]⟩
abbrev S128x1 : Shape := ⟨2, ![128, 1]⟩
abbrev S32768x4608 : Shape := ⟨2, ![32768, 4608]⟩
abbrev S_ : Shape := ⟨0, ![]⟩

class Facts : Prop where
  slices_S32768x5120_S32768x4608_0_0 : S32768x5120.Slices ![0, 0] S32768x4608
  bitsLt_bf16_f32 : FTy.bits .bf16 < FTy.bits .f32
  bcast_S_S32768x4608 : S_.BroadcastsInDim S32768x4608 (![] : Fin 0 → Fin S32768x4608.rank)
  reducesTo_S32768x4608_S_d0_1 : S32768x4608.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S32768x5120 .bf16) (main_arg1 : FVec F S4x64 .f32) (main_arg2 : FVec F S128x1 .f32) : IVec S_ 1 :=
  let main_v0 : FVec F S32768x4608 .bf16 := (extractStridedSlice S32768x4608 ![0, 0] · slices_S32768x5120_S32768x4608_0_0) main_arg0
  let main_v1 : FVec F S32768x4608 .f32 := (extf .f32 · bitsLt_bf16_f32) main_v0
  let main_v2 : FVec F S32768x4608 .f32 := Host.absf main_v1
  let main_cst : FVec F S_ .f32 := constant S_ .f32 0x7F800000#32
  let main_v3 : FVec F S32768x4608 .f32 := broadcastInDim S32768x4608 ![] bcast_S_S32768x4608 main_cst
  let main_v4 : IVec S32768x4608 1 := cmpf .olt main_v2 main_v3
  let main_c : IVec S_ 1 := constantI S_ 1 1#1
  let main_v5 : IVec S_ 1 := (fun x v => Host.reduce IntOp.andi x v reducesTo_S32768x4608_S_d0_1 h_S_) main_v4 main_c
  let main_v6 : FVec F S4x64 .f32 := Host.absf main_arg1
  let main_cst_0 : FVec F S_ .f32 := constant S_ .f32 0x7F800000#32
  let main_v7 : FVec F S4x64 .f32 := broadcastInDim S4x64 ![] bcast_S_S4x64 main_cst_0
  let main_v8 : IVec S4x64 1 := cmpf .olt main_v6 main_v7
  let main_c_1 : IVec S_ 1 := constantI S_ 1 1#1
  let main_v9 : IVec S_ 1 := (fun x v => Host.reduce IntOp.andi x v reducesTo_S4x64_S_d0_1 h_S_) main_v8 main_c_1
  let main_v10 : IVec S_ 1 := andi main_v5 main_v9
  main_v10
-- ==== Kernel.lean ====
abbrev S32768x5120 : Shape := ⟨2, ![32768, 5120]⟩
abbrev S4x64 : Shape := ⟨2, ![4, 64]⟩
abbrev S128x1 : Shape := ⟨2, ![128, 1]⟩
abbrev S32768x1536 : Shape := ⟨2, ![32768, 1536]⟩
abbrev S1024x128 : Shape := ⟨2, ![1024, 128]⟩
abbrev S8192x128 : Shape := ⟨2, ![8192, 128]⟩
abbrev S144x8192 : Shape := ⟨2, ![144, 8192]⟩
abbrev S128x2048 : Shape := ⟨2, ![128, 2048]⟩
abbrev S1x2048 : Shape := ⟨2, ![1, 2048]⟩
abbrev S144x2048 : Shape := ⟨2, ![144, 2048]⟩
abbrev S4x256x256 : Shape := ⟨3, ![4, 256, 256]⟩
abbrev S128x1024 : Shape := ⟨2, ![128, 1024]⟩
abbrev S16x8192 : Shape := ⟨2, ![16, 8192]⟩
abbrev S256x128 : Shape := ⟨2, ![256, 128]⟩
abbrev S128x256 : Shape := ⟨2, ![128, 256]⟩
abbrev S256x256 : Shape := ⟨2, ![256, 256]⟩
abbrev S1x256x256 : Shape := ⟨3, ![1, 256, 256]⟩
abbrev S1x256 : Shape := ⟨2, ![1, 256]⟩
abbrev S256 : Shape := ⟨1, ![256]⟩
abbrev S144x256 : Shape := ⟨2, ![144, 256]⟩
abbrev S1x64 : Shape := ⟨2, ![1, 64]⟩
abbrev S1 : Shape := ⟨1, ![1]⟩
abbrev S1x1 : Shape := ⟨2, ![1, 1]⟩
abbrev S1x1024 : Shape := ⟨2, ![1, 1024]⟩
abbrev S1024 : Shape := ⟨1, ![1024]⟩

abbrev nBuf : Space → Nat
  | .hbm => 4
  | .vmem => 15
  | .smem => 0
  | _ => 0

abbrev bufTy : (tb : Table) → Fin (tcTables nBuf tb) → BufTy
  | .hbm, ⟨0, _⟩ => ⟨S32768x5120, .bf16⟩
  | .hbm, ⟨1, _⟩ => ⟨S4x64, .f32⟩
  | .hbm, ⟨2, _⟩ => ⟨S128x1, .f32⟩
  | .hbm, ⟨3, _⟩ => ⟨S32768x1536, .bf16⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S4x64, .f32⟩
  | .local _ .vmem, ⟨7, _⟩ => ⟨S128x1, .f32⟩
  | .local _ .vmem, ⟨8, _⟩ => ⟨S1024x128, .bf16⟩
  | .local _ .vmem, ⟨9, _⟩ => ⟨S1024x128, .bf16⟩
  | .local _ .vmem, ⟨10, _⟩ => ⟨S144x8192, .bf16⟩
  | .local _ .vmem, ⟨11, _⟩ => ⟨S128x2048, .bf16⟩
  | .local _ .vmem, ⟨12, _⟩ => ⟨S1x2048, .f32⟩
  | .local _ .vmem, ⟨13, _⟩ => ⟨S144x2048, .f32⟩
  | .local _ .vmem, ⟨14, _⟩ => ⟨S4x256x256, .f32⟩
  | _, _ => ⟨S32768x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 12, 8], ![false, false, false]⟩

@[reducible] def k0_t1_loop (i : grid0.Coords) : Scf.Loop 32 :=
  let c0_i32_40 : BitVec 32 := 0#32
  let arg2 : BitVec 32 := BitVec.ofNat 32 (i 2).val
  let v55 : BitVec 32 := Scalar.subi arg2 c0_i32_40
  let c1_i32 : BitVec 32 := 1#32
  let v57 : BitVec 32 := Scalar.divsi v55 c1_i32
  let v58 : BitVec 32 := Scalar.muli v57 c1_i32
  let v59 : BitVec 32 := Scalar.addi c0_i32_40 v58
  let c1_i32_41 : BitVec 32 := 1#32
  ⟨c0_i32_40, v59, c1_i32_41⟩
def k0_mult1 (i : grid0.Coords) (k0_t1 : Fin (k0_t1_loop i).trips) : BitVec 32 :=
  let c0_i32_40 : BitVec 32 := 0#32
  let c1_i32_41 : BitVec 32 := 1#32
  let arg14 : BitVec 32 := Scf.iv c0_i32_40 c1_i32_41 k0_t1
  let c1024_i32_449 : BitVec 32 := 1024#32
  let v783 : BitVec 32 := Scalar.muli arg14 c1024_i32_449
  v783
def k0_off1 (i : grid0.Coords) (k0_t1 : Fin (k0_t1_loop i).trips) (c0_i32_454 : BitVec 32) (c0_i32_455 : BitVec 32) : Fin 2 → Nat :=
  let c0_i32_40 : BitVec 32 := 0#32
  let c1_i32_41 : BitVec 32 := 1#32
  let arg14 : BitVec 32 := Scf.iv c0_i32_40 c1_i32_41 k0_t1
  let c1024_i32_449 : BitVec 32 := 1024#32
  let v783 : BitVec 32 := Scalar.muli arg14 c1024_i32_449
  let v784 : BitVec 32 := v783
  let v788 : BitVec 32 := Scalar.addi v784 c0_i32_454
  let v789 : BitVec 32 := Scalar.addi v788 c0_i32_455
  let v790 : Index := Scalar.indexCast v789
  let c0_456 : Index := 0#32
  ![v790.toNat, 0]
def k0_off1_at (r : Fin 5) : BitVec 32 × BitVec 32 :=
  if r.val < 2 then
    if r.val < 1 then
      (0#32, 0#32)
    else
      (0#32, 256#32)
  else
    if r.val < 3 then
      (0#32, 512#32)
    else
      if r.val < 4 then
        (0#32, 768#32)
      else
        (1024#32, 0#32)
def k0_off2 (i : grid0.Coords) (k0_t1 : Fin (k0_t1_loop i).trips) (c0_i32_463 : BitVec 32) : Fin 2 → Nat :=
  let c0_464 : Index := 0#32
  let c0_i32_40 : BitVec 32 := 0#32
  let c1_i32_41 : BitVec 32 := 1#32
  let arg14 : BitVec 32 := Scf.iv c0_i32_40 c1_i32_41 k0_t1
  let c1024_i32_449 : BitVec 32 := 1024#32
  let v783 : BitVec 32 := Scalar.muli arg14 c1024_i32_449
  let v784 : BitVec 32 := v783
  let c0_i32_450 : BitVec 32 := 0#32
  let v785 : BitVec 32 := Scalar.addi v784 c0_i32_450
  let v803 : BitVec 32 := Scalar.addi v785 c0_i32_463
  let v804 : Index := Scalar.indexCast v803
  ![0, v804.toNat]
@[reducible] def k0_t2_loop (i : grid0.Coords) : Scf.Loop 32 :=
  let c0_i32_40 : BitVec 32 := 0#32
  let arg2 : BitVec 32 := BitVec.ofNat 32 (i 2).val
  let v55 : BitVec 32 := Scalar.subi arg2 c0_i32_40
  let c1_i32 : BitVec 32 := 1#32
  let v57 : BitVec 32 := Scalar.divsi v55 c1_i32
  let v58 : BitVec 32 := Scalar.muli v57 c1_i32
  let v59 : BitVec 32 := Scalar.addi c0_i32_40 v58
  let v56 : BitVec 32 := Scalar.addi c0_i32_40 v55
  let c1_i32_42 : BitVec 32 := 1#32
  ⟨v59, v56, c1_i32_42⟩
def k0_mult2 (i : grid0.Coords) (k0_t2 : Fin (k0_t2_loop i).trips) : BitVec 32 :=
  let c0_i32_40 : BitVec 32 := 0#32
  let arg2 : BitVec 32 := BitVec.ofNat 32 (i 2).val
  let v55 : BitVec 32 := Scalar.subi arg2 c0_i32_40
  let c1_i32 : BitVec 32 := 1#32
  let v57 : BitVec 32 := Scalar.divsi v55 c1_i32
  let v58 : BitVec 32 := Scalar.muli v57 c1_i32
  let v59 : BitVec 32 := Scalar.addi c0_i32_40 v58
  let c1_i32_42 : BitVec 32 := 1#32
  let arg14 : BitVec 32 := Scf.iv v59 c1_i32_42 k0_t2
  let c1024_i32_449 : BitVec 32 := 1024#32
  let v783 : BitVec 32 := Scalar.muli arg14 c1024_i32_449
  v783
def k0_off3 (i : grid0.Coords) (k0_t2 : Fin (k0_t2_loop i).trips) (c0_i32_454 : BitVec 32) (c0_i32_455 : BitVec 32) : Fin 2 → Nat :=
  let c0_i32_40 : BitVec 32 := 0#32
  let arg2 : BitVec 32 := BitVec.ofNat 32 (i 2).val
  let v55 : BitVec 32 := Scalar.subi arg2 c0_i32_40
  let c1_i32 : BitVec 32 := 1#32
  let v57 : BitVec 32 := Scalar.divsi v55 c1_i32
  let v58 : BitVec 32 := Scalar.muli v57 c1_i32
  let v59 : BitVec 32 := Scalar.addi c0_i32_40 v58
  let c1_i32_42 : BitVec 32 := 1#32
  let arg14 : BitVec 32 := Scf.iv v59 c1_i32_42 k0_t2
  let c1024_i32_449 : BitVec 32 := 1024#32
  let v783 : BitVec 32 := Scalar.muli arg14 c1024_i32_449
  let v784 : BitVec 32 := v783
  let v788 : BitVec 32 := Scalar.addi v784 c0_i32_454
  let v789 : BitVec 32 := Scalar.addi v788 c0_i32_455
  let v790 : Index := Scalar.indexCast v789
  let c0_456 : Index := 0#32
  ![v790.toNat, 0]
def k0_off3_at (r : Fin 5) : BitVec 32 × BitVec 32 :=
  if r.val < 2 then
    if r.val < 1 then
      (0#32, 0#32)
    else
      (0#32, 256#32)
  else
    if r.val < 3 then
      (0#32, 512#32)
    else
      if r.val < 4 then
        (0#32, 768#32)
      else
        (1024#32, 0#32)
def k0_off4 (i : grid0.Coords) (k0_t2 : Fin (k0_t2_loop i).trips) (c0_i32_463 : BitVec 32) : Fin 2 → Nat :=
  let c0_464 : Index := 0#32
  let c0_i32_40 : BitVec 32 := 0#32
  let arg2 : BitVec 32 := BitVec.ofNat 32 (i 2).val
  let v55 : BitVec 32 := Scalar.subi arg2 c0_i32_40
  let c1_i32 : BitVec 32 := 1#32
  let v57 : BitVec 32 := Scalar.divsi v55 c1_i32
  let v58 : BitVec 32 := Scalar.muli v57 c1_i32
  let v59 : BitVec 32 := Scalar.addi c0_i32_40 v58
  let c1_i32_42 : BitVec 32 := 1#32
  let arg14 : BitVec 32 := Scf.iv v59 c1_i32_42 k0_t2
  let c1024_i32_449 : BitVec 32 := 1024#32
  let v783 : BitVec 32 := Scalar.muli arg14 c1024_i32_449
  let v784 : BitVec 32 := v783
  let c0_i32_450 : BitVec 32 := 0#32
  let v785 : BitVec 32 := Scalar.addi v784 c0_i32_450
  let v803 : BitVec 32 := Scalar.addi v785 c0_i32_463
  let v804 : Index := Scalar.indexCast v803
  ![0, v804.toNat]
def k0_mult3 (i : grid0.Coords) : BitVec 32 :=
  let arg2 : BitVec 32 := BitVec.ofNat 32 (i 2).val
  let c1024_i32 : BitVec 32 := 1024#32
  let v60 : BitVec 32 := Scalar.muli arg2 c1024_i32
  v60
def k0_off5 (i : grid0.Coords) (c0_i32_48 : BitVec 32) : Fin 2 → Nat :=
  let arg2 : BitVec 32 := BitVec.ofNat 32 (i 2).val
  let c1024_i32 : BitVec 32 := 1024#32
  let v60 : BitVec 32 := Scalar.muli arg2 c1024_i32
  let v61 : BitVec 32 := v60
  let c0_i32_47 : BitVec 32 := 0#32
  let v65 : BitVec 32 := Scalar.addi v61 c0_i32_47
  let v66 : BitVec 32 := Scalar.addi v65 c0_i32_48
  let v67 : Index := Scalar.indexCast v66
  let c0_49 : Index := 0#32
  ![v67.toNat, 0]
def k0_off6 (i : grid0.Coords) (c0_i32_59 : BitVec 32) : Fin 2 → Nat :=
  let c0_60 : Index := 0#32
  let arg2 : BitVec 32 := BitVec.ofNat 32 (i 2).val
  let c1024_i32 : BitVec 32 := 1024#32
  let v60 : BitVec 32 := Scalar.muli arg2 c1024_i32
  let v61 : BitVec 32 := v60
  let c0_i32_43 : BitVec 32 := 0#32
  let v62 : BitVec 32 := Scalar.addi v61 c0_i32_43
  let v89 : BitVec 32 := Scalar.addi v62 c0_i32_59
  let v90 : Index := Scalar.indexCast v89
  ![0, v90.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S32768x5120 : Shape := ⟨2, ![32768, 5120]⟩
abbrev S4x64 : Shape := ⟨2, ![4, 64]⟩
abbrev S128x1 : Shape := ⟨2, ![128, 1]⟩
abbrev S32768x1536 : Shape := ⟨2, ![32768, 1536]⟩
abbrev S4x8192x12x2x64 : Shape := ⟨5, ![4, 8192, 12, 2, 64]⟩
abbrev S4x8192x12x128 : Shape := ⟨4, ![4, 8192, 12, 128]⟩
abbrev S4x12x2x8192x8192 : Shape := ⟨5, ![4, 12, 2, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x12x2x8192 : Shape := ⟨4, ![4, 12, 2, 8192]⟩
abbrev S4x12x2x8192x1 : Shape := ⟨5, ![4, 12, 2, 8192, 1]⟩
abbrev S1x64 : Shape := ⟨2, ![1, 64]⟩
abbrev S64 : Shape := ⟨1, ![64]⟩
abbrev S4x12x1x8192x8192 : Shape := ⟨5, ![4, 12, 1, 8192, 8192]⟩
abbrev S4x12x8192x8192 : Shape := ⟨4, ![4, 12, 8192, 8192]⟩
abbrev S4x12x128x8192 : Shape := ⟨4, ![4, 12, 128, 8192]⟩
abbrev S4x8192x12 : Shape := ⟨3, ![4, 8192, 12]⟩
abbrev S4x8192x12x1 : Shape := ⟨4, ![4, 8192, 12, 1]⟩
abbrev S128 : Shape := ⟨1, ![128]⟩
abbrev S1x1x1x128 : Shape := ⟨4, ![1, 1, 1, 128]⟩

abbrev nBuf : Space → Nat
  | .hbm => 94
  | .vmem => 0
  | .smem => 0
  | _ => 0

abbrev bufTy : (tb : Table) → Fin (tcTables nBuf tb) → BufTy
  | .hbm, ⟨0, _⟩ => ⟨S32768x5120, .bf16⟩
  | .hbm, ⟨1, _⟩ => ⟨S4x64, .f32⟩
  | .hbm, ⟨2, _⟩ => ⟨S128x1, .f32⟩
  | .hbm, ⟨3, _⟩ => ⟨S32768x1536, .bf16⟩
  | .hbm, ⟨4, _⟩ => ⟨S4x8192x12x2x64, .bf16⟩
  | .hbm, ⟨5, _⟩ => ⟨S32768x1536, .bf16⟩
  | .hbm, ⟨6, _⟩ => ⟨S4x8192x12x128, .bf16⟩
  | .hbm, ⟨7, _⟩ => ⟨S32768x1536, .bf16⟩
  | .hbm, ⟨8, _⟩ => ⟨S4x8192x12x2x64, .bf16⟩
  | .hbm, ⟨9, _⟩ => ⟨S4x12x2x8192x8192, .f32⟩
  | .hbm, ⟨10, _⟩ => ⟨S_, .f32⟩
  | .hbm, ⟨11, _⟩ => ⟨S_, .f32⟩
  | .hbm, ⟨12, _⟩ => ⟨S4x12x2x8192x8192, .f32⟩
  | .hbm, ⟨13, _⟩ => ⟨S4x12x2x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S_, .f32⟩
  | .hbm, ⟨21, _⟩ => ⟨S_, .f32⟩
  | .hbm, ⟨22, _⟩ => ⟨S4x12x2x8192x8192, .i1⟩
  | .hbm, ⟨23, _⟩ => ⟨S4x12x2x8192x8192, .f32⟩
  | .hbm, ⟨24, _⟩ => ⟨S4x12x2x8192x8192, .f32⟩
  | .hbm, ⟨25, _⟩ => ⟨S_, .f32⟩
  | .hbm, ⟨26, _⟩ => ⟨S4x12x2x8192, .f32⟩
  | .hbm, ⟨27, _⟩ => ⟨S_, .f32⟩
  | .hbm, ⟨28, _⟩ => ⟨S4x12x2x8192, .f32⟩
  | .hbm, ⟨29, _⟩ => ⟨S4x12x2x8192, .f32⟩
  | .hbm, ⟨30, _⟩ => ⟨S4x12x2x8192x1, .f32⟩
  | .hbm, ⟨31, _⟩ => ⟨S4x12x2x8192x8192, .f32⟩
  | .hbm, ⟨32, _⟩ => ⟨S4x12x2x8192x8192, .f32⟩
  | .hbm, ⟨33, _⟩ => ⟨S4x12x2x8192x8192, .f32⟩
  | .hbm, ⟨34, _⟩ => ⟨S_, .f32⟩
  | .hbm, ⟨35, _⟩ => ⟨S4x12x2x8192, .f32⟩
  | .hbm, ⟨36, _⟩ => ⟨S4x12x2x8192x1, .f32⟩
  | .hbm, ⟨37, _⟩ => ⟨S4x12x2x8192x8192, .f32⟩
  | .hbm, ⟨38, _⟩ => ⟨S4x12x2x8192x8192, .f32⟩
  | .hbm, ⟨39, _⟩ => ⟨S1x64, .f32⟩
  | .hbm, ⟨40, _⟩ => ⟨S64, .f32⟩
  | .hbm, ⟨41, _⟩ => ⟨S1x64, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1x64, .f32⟩
  | .hbm, ⟨48, _⟩ => ⟨S64, .f32⟩
  | .hbm, ⟨49, _⟩ => ⟨S1x64, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4x12x1x8192x8192, .f32⟩
  | .hbm, ⟨59, _⟩ => ⟨S4x12x8192x8192, .f32⟩
  | .hbm, ⟨60, _⟩ => ⟨S4x12x1x8192x8192, .f32⟩
  | .hbm, ⟨61, _⟩ => ⟨S4x12x8192x8192, .f32⟩
  | .hbm, ⟨62, _⟩ => ⟨S4x12x8192x8192, .f32⟩
  | .hbm, ⟨63, _⟩ => ⟨S4x12x8192x8192, .f32⟩
  | .hbm, ⟨64, _⟩ => ⟨S4x12x8192x8192, .f32⟩
  | .hbm, ⟨65, _⟩ => ⟨S4x12x8192x8192, .bf16⟩
  | .hbm, ⟨66, _⟩ => ⟨S4x12x128x8192, .f32⟩
  | .hbm, ⟨67, _⟩ => ⟨S4x8192x12x128, .f32⟩
  | .hbm, ⟨68, _⟩ => ⟨S4x8192x12x128, .bf16⟩
  | .hbm, ⟨69, _⟩ => ⟨S4x8192x12x128, .f32⟩
  | .hbm, ⟨70, _⟩ => ⟨S4x8192x12x128, .f32⟩
  | .hbm, ⟨71, _⟩ => ⟨S_, .f32⟩
  | .hbm, ⟨72, _⟩ => ⟨S4x8192x12, .f32⟩
  | .hbm, ⟨73, _⟩ => ⟨S4x8192x12x1, .f32⟩
  | .hbm, ⟨74, _⟩ => ⟨S_, .f32⟩
  | .hbm, ⟨75, _⟩ => ⟨S4x8192x12x1, .f32⟩
  | .hbm, ⟨76, _⟩ => ⟨S4x8192x12x1, .f32⟩
  | .hbm, ⟨77, _⟩ => ⟨S_, .f32⟩
  | .hbm, ⟨78, _⟩ => ⟨S4x8192x12x1, .f32⟩
  | .hbm, ⟨79, _⟩ => ⟨S4x8192x12x1, .f32⟩
  | .hbm, ⟨80, _⟩ => ⟨S4x8192x12x1, .f32⟩
  | .hbm, ⟨81, _⟩ => ⟨S4x8192x12x128, .f32⟩
  | .hbm, ⟨82, _⟩ => ⟨S4x8192x12x128, .f32⟩
  | .hbm, ⟨83, _⟩ => ⟨S128, .f32⟩
  | .hbm, ⟨84, _⟩ => ⟨S1x1x1x128, .f32⟩
  | .hbm, ⟨85, _⟩ => ⟨S4x8192x12x128, .f32⟩
  | .hbm, ⟨86, _⟩ => ⟨S4x8192x12x128, .f32⟩
  | .hbm, ⟨87, _⟩ => ⟨S4x8192x12x128, .bf16⟩
  | .hbm, ⟨88, _⟩ => ⟨S4x8192x12x128, .f32⟩
  | .hbm, ⟨89, _⟩ => ⟨S_, .f32⟩
  | .hbm, ⟨90, _⟩ => ⟨S4x8192x12x128, .f32⟩
  | .hbm, ⟨91, _⟩ => ⟨S4x8192x12x128, .f32⟩
  | .hbm, ⟨92, _⟩ => ⟨S4x8192x12x128, .bf16⟩
  | .hbm, ⟨93, _⟩ => ⟨S32768x1536, .bf16⟩
  | _, _ => ⟨S32768x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_10 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== Kernel2.lean ====
abbrev S32768x2048 : Shape := ⟨2, ![32768, 2048]⟩
abbrev S1x2048 : Shape := ⟨2, ![1, 2048]⟩
abbrev S2048x5132 : Shape := ⟨2, ![2048, 5132]⟩
abbrev S2048x4608 : Shape := ⟨2, ![2048, 4608]⟩
abbrev S2048x512 : Shape := ⟨2, ![2048, 512]⟩
abbrev S2048x5120 : Shape := ⟨2, ![2048, 5120]⟩
abbrev S2048x12 : Shape := ⟨2, ![2048, 12]⟩
abbrev S_ : Shape := ⟨0, ![]⟩
abbrev S2048x128 : Shape := ⟨2, ![2048, 128]⟩
abbrev S32768x5120 : Shape := ⟨2, ![32768, 5120]⟩
abbrev S32768x128 : Shape := ⟨2, ![32768, 128]⟩
abbrev S1024x2048 : Shape := ⟨2, ![1024, 2048]⟩
abbrev S1024x512 : Shape := ⟨2, ![1024, 512]⟩
abbrev S1024x128 : Shape := ⟨2, ![1024, 128]⟩
abbrev S1x1024x2048 : Shape := ⟨3, ![1, 1024, 2048]⟩
abbrev S1024 : Shape := ⟨1, ![1024]⟩
abbrev S1024x1 : Shape := ⟨2, ![1024, 1]⟩

abbrev nBuf : Space → Nat
  | .hbm => 14
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x5132, .f32⟩
  | .hbm, ⟨3, _⟩ => ⟨S2048x4608, .f32⟩
  | .hbm, ⟨4, _⟩ => ⟨S2048x512, .f32⟩
  | .hbm, ⟨5, _⟩ => ⟨S2048x5120, .f32⟩
  | .hbm, ⟨6, _⟩ => ⟨S2048x5120, .bf16⟩
  | .hbm, ⟨7, _⟩ => ⟨S2048x12, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x128, .bf16⟩
  | .hbm, ⟨12, _⟩ => ⟨S32768x5120, .bf16⟩
  | .hbm, ⟨13, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x128, .bf16⟩
  | .local _ .vmem, ⟨6, _⟩ => ⟨S1024x512, .bf16⟩
  | .local _ .vmem, ⟨7, _⟩ => ⟨S1024x512, .bf16⟩
  | .local _ .vmem, ⟨8, _⟩ => ⟨S1024x128, .f32⟩
  | .local _ .vmem, ⟨9, _⟩ => ⟨S1024x128, .f32⟩
  | .local _ .vmem, ⟨10, _⟩ => ⟨S1x1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S32768x2048 : Shape := ⟨2, ![32768, 2048]⟩
abbrev S1x2048 : Shape := ⟨2, ![1, 2048]⟩
abbrev S2048x5132 : Shape := ⟨2, ![2048, 5132]⟩
abbrev S2048 : Shape := ⟨1, ![2048]⟩
abbrev S_ : Shape := ⟨0, ![]⟩
abbrev S32768 : Shape := ⟨1, ![32768]⟩
abbrev S32768x1 : Shape := ⟨2, ![32768, 1]⟩
abbrev S32768x5132 : Shape := ⟨2, ![32768, 5132]⟩
abbrev S32768x4608 : Shape := ⟨2, ![32768, 4608]⟩
abbrev S32768x512 : Shape := ⟨2, ![32768, 512]⟩
abbrev S32768x5120 : Shape := ⟨2, ![32768, 5120]⟩

abbrev nBuf : Space → Nat
  | .hbm => 25
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x5132, .f32⟩
  | .hbm, ⟨3, _⟩ => ⟨S2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S32768x5132, .f32⟩
  | .hbm, ⟨21, _⟩ => ⟨S32768x4608, .f32⟩
  | .hbm, ⟨22, _⟩ => ⟨S32768x512, .f32⟩
  | .hbm, ⟨23, _⟩ => ⟨S32768x5120, .f32⟩
  | .hbm, ⟨24, _⟩ => ⟨S32768x5120, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel3.lean ====
abbrev S32768x1536 : Shape := ⟨2, ![32768, 1536]⟩
abbrev S32768x512 : Shape := ⟨2, ![32768, 512]⟩
abbrev S2048x2048 : Shape := ⟨2, ![2048, 2048]⟩
abbrev S32768x2048 : Shape := ⟨2, ![32768, 2048]⟩
abbrev S1x2048 : Shape := ⟨2, ![1, 2048]⟩
abbrev S2048x128 : Shape := ⟨2, ![2048, 128]⟩
abbrev S1x128 : Shape := ⟨2, ![1, 128]⟩
abbrev S1536x2048 : Shape := ⟨2, ![1536, 2048]⟩
abbrev S512x2048 : Shape := ⟨2, ![512, 2048]⟩
abbrev S32768x128 : Shape := ⟨2, ![32768, 128]⟩
abbrev S8x32768 : Shape := ⟨2, ![8, 32768]⟩
abbrev S8x128 : Shape := ⟨2, ![8, 128]⟩
abbrev S512x1536 : Shape := ⟨2, ![512, 1536]⟩
abbrev S512x512 : Shape := ⟨2, ![512, 512]⟩
abbrev S512x128 : Shape := ⟨2, ![512, 128]⟩
abbrev S8x512 : Shape := ⟨2, ![8, 512]⟩
abbrev S512 : Shape := ⟨1, ![512]⟩
abbrev S512x1 : Shape := ⟨2, ![512, 1]⟩
abbrev S128 : Shape := ⟨1, ![128]⟩
abbrev S128x512 : Shape := ⟨2, ![128, 512]⟩

abbrev nBuf : Space → Nat
  | .hbm => 14
  | .vmem => 19
  | .smem => 0
  | _ => 0

abbrev bufTy : (tb : Table) → Fin (tcTables nBuf tb) → BufTy
  | .hbm, ⟨0, _⟩ => ⟨S32768x1536, .bf16⟩
  | .hbm, ⟨1, _⟩ => ⟨S32768x512, .bf16⟩
  | .hbm, ⟨2, _⟩ => ⟨S2048x2048, .f32⟩
  | .hbm, ⟨3, _⟩ => ⟨S32768x2048, .f32⟩
  | .hbm, ⟨4, _⟩ => ⟨S1x2048, .f32⟩
  | .hbm, ⟨5, _⟩ => ⟨S2048x128, .bf16⟩
  | .hbm, ⟨6, _⟩ => ⟨S1x128, .f32⟩
  | .hbm, ⟨7, _⟩ => ⟨S2048x2048, .bf16⟩
  | .hbm, ⟨8, _⟩ => ⟨S1536x2048, .bf16⟩
  | .hbm, ⟨9, _⟩ => ⟨S512x2048, .bf16⟩
  | .hbm, ⟨10, _⟩ => ⟨S32768x2048, .f32⟩
  | .hbm, ⟨11, _⟩ => ⟨S32768x128, .f32⟩
  | .hbm, ⟨12, _⟩ => ⟨S8x32768, .f32⟩
  | .hbm, ⟨13, _⟩ => ⟨S8x128, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S1536x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S2048x128, .bf16⟩
  | .local _ .vmem, ⟨10, _⟩ => ⟨S1x128, .f32⟩
  | .local _ .vmem, ⟨11, _⟩ => ⟨S512x2048, .f32⟩
  | .local _ .vmem, ⟨12, _⟩ => ⟨S512x2048, .f32⟩
  | .local _ .vmem, ⟨13, _⟩ => ⟨S512x128, .f32⟩
  | .local _ .vmem, ⟨14, _⟩ => ⟨S512x128, .f32⟩
  | .local _ .vmem, ⟨15, _⟩ => ⟨S8x512, .f32⟩
  | .local _ .vmem, ⟨16, _⟩ => ⟨S8x512, .f32⟩
  | .local _ .vmem, ⟨17, _⟩ => ⟨S8x128, .f32⟩
  | .local _ .vmem, ⟨18, _⟩ => ⟨S8x128, .f32⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S32768x1536 : Shape := ⟨2, ![32768, 1536]⟩
abbrev S32768x512 : Shape := ⟨2, ![32768, 512]⟩
abbrev S2048x2048 : Shape := ⟨2, ![2048, 2048]⟩
abbrev S32768x2048 : Shape := ⟨2, ![32768, 2048]⟩
abbrev S1x2048 : Shape := ⟨2, ![1, 2048]⟩
abbrev S2048x128 : Shape := ⟨2, ![2048, 128]⟩
abbrev S1x128 : Shape := ⟨2, ![1, 128]⟩

abbrev nBuf : Space → Nat
  | .hbm => 11
  | .vmem => 0
  | .smem => 0
  | _ => 0

abbrev bufTy : (tb : Table) → Fin (tcTables nBuf tb) → BufTy
  | .hbm, ⟨0, _⟩ => ⟨S32768x1536, .bf16⟩
  | .hbm, ⟨1, _⟩ => ⟨S32768x512, .bf16⟩
  | .hbm, ⟨2, _⟩ => ⟨S2048x2048, .f32⟩
  | .hbm, ⟨3, _⟩ => ⟨S32768x2048, .f32⟩
  | .hbm, ⟨4, _⟩ => ⟨S1x2048, .f32⟩
  | .hbm, ⟨5, _⟩ => ⟨S2048x128, .bf16⟩
  | .hbm, ⟨6, _⟩ => ⟨S1x128, .f32⟩
  | .hbm, ⟨7, _⟩ => ⟨S32768x2048, .bf16⟩
  | .hbm, ⟨8, _⟩ => ⟨S32768x2048, .f32⟩
  | .hbm, ⟨9, _⟩ => ⟨S32768x2048, .f32⟩
  | .hbm, ⟨10, _⟩ => ⟨S32768x2048, .f32⟩
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩

abbrev nD : Nat := 1
abbrev τ : Topo := Topo.v7x

variable {F : FTy → Type} [FloatOps F]
-- ==== Proof.Attn.RefDefs.lean ====
/- The reference's result, cut into named arrays. -/
module

public import proofs.«01_k».proof.Proof.Gen.ReferenceIdeal.Run

@[expose] public section

set_option maxRecDepth 8192

noncomputable section

namespace Cert.Attn.Ref

open Cert.ReferenceIdeal Cert.ReferenceIdeal.Gen Idealize.ShloMosaic Idealize.ShloMosaic.TcCoe Idealize.SL.Sem

variable {F : FTy → Type} [FloatOps F]
variable (X : FVec F S32768x5120 .bf16) (L : FVec F S4x64 .f32) (W : FVec F S128x1 .f32)

/-- The queries, the keys, the values. -/
def qH : FVec F S4x8192x12x2x64 .bf16 := shapeCast _ (extractStridedSlice S32768x1536 ![0, 3072] X slices_S32768x5120_S32768x1536_0_3072) shapeCasts_S32768x1536_S4x8192x12x2x64
def kH : FVec F S4x8192x12x2x64 .bf16 := shapeCast _ (extractStridedSlice S32768x1536 ![0, 0] X slices_S32768x5120_S32768x1536_0_0) shapeCasts_S32768x1536_S4x8192x12x2x64
def vH : FVec F S4x8192x12x128 .bf16 := shapeCast _ (extractStridedSlice S32768x1536 ![0, 1536] X slices_S32768x5120_S32768x1536_0_1536) shapeCasts_S32768x1536_S4x8192x12x128

/-- The scores. -/
def sH : FVec F S4x12x2x8192x8192 .f32 :=
  mulf (Host.dotGeneral dot_S4x8192x12x2x64_S4x8192x12x2x64_S4x12x2x8192x8192_4_4_1_1_023_023 none (qH X) (kH X)) (broadcastInDim S4x12x2x8192x8192 ![] bcast_S_S4x12x2x8192x8192 (Host.log (constant S_ .f32 0x40000000#32)))

/-- Which keys a query sees. -/
def mkH : IVec S4x12x2x8192x8192 1 :=
  broadcastInDim S4x12x2x8192x8192 ![3, 4] bcast_S8192x8192_S4x12x2x8192x8192_3_4 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The scores, −∞ at the keys not seen. -/
def zH (s : FVec F S4x12x2x8192x8192 .f32) : FVec F S4x12x2x8192x8192 .f32 :=
  select mkH s (broadcastInDim S4x12x2x8192x8192 ![] bcast_S_S4x12x2x8192x8192 (id (constant S_ .f32 0xFF800000#32)))

/-- The rows' maxima. -/
def mxH (z : FVec F S4x12x2x8192x8192 .f32) : FVec F S4x12x2x8192 .f32 :=
  maximumf (broadcastInDim S4x12x2x8192 ![] bcast_S_S4x12x2x8192 (constant S_ .f32 0xFF800000#32)) (Host.reduce FloatOps.maximumf z (constant S_ .f32 0xFF800000#32) reducesTo_S4x12x2x8192x8192_S4x12x2x8192_d4 h_S_)

/-- The exponentials. -/
def exH (z : FVec F S4x12x2x8192x8192 .f32) : FVec F S4x12x2x8192x8192 .f32 :=
  Host.exp (subf z (broadcastInDim S4x12x2x8192x8192 ![0, 1, 2, 3, 4] bcast_S4x12x2x8192x1_S4x12x2x8192x8192_0_1_2_3_4 (broadcastInDim S4x12x2x8192x1 ![0, 1, 2, 3] bcast_S4x12x2x8192_S4x12x2x8192x1_0_1_2_3 (mxH z))))

/-- The weights. -/
def prH (e : FVec F S4x12x2x8192x8192 .f32) : FVec F S4x12x2x8192x8192 .f32 :=
  Host.divf e (broadcastInDim S4x12x2x8192x8192 ![0, 1, 2, 3, 4] bcast_S4x12x2x8192x1_S4x12x2x8192x8192_0_1_2_3_4 (broadcastInDim S4x12x2x8192x1 ![0, 1, 2, 3] bcast_S4x12x2x8192_S4x12x2x8192x1_0_1_2_3 (Host.reduceAdd e (constant S_ .f32 0x00000000#32) reducesTo_S4x12x2x8192x8192_S4x12x2x8192_d4 h_S_)))

/-- The factor of the second half. -/
def lamH : FVec F S_ .f32 :=
  addf (subf (Host.exp (Host.reduceAdd (mulf (shapeCast _ (extractStridedSlice S1x64 ![0, 0] L slices_S4x64_S1x64_0_0) shapeCasts_S1x64_S64) (shapeCast _ (extractStridedSlice S1x64 ![1, 0] L slices_S4x64_S1x64_1_0) shapeCasts_S1x64_S64)) (constant S_ .f32 0x00000000#32) reducesTo_S64_S_d0 h_S_)) (Host.exp (Host.reduceAdd (mulf (shapeCast _ (extractStridedSlice S1x64 ![2, 0] L slices_S4x64_S1x64_2_0) shapeCasts_S1x64_S64) (shapeCast _ (extractStridedSlice S1x64 ![3, 0] L slices_S4x64_S1x64_3_0) shapeCasts_S1x64_S64)) (constant S_ .f32 0x00000000#32) reducesTo_S64_S_d0 h_S_))) (constant S_ .f32 0x3EB60549#32)

/-- The difference of the halves' weights. -/
def awH (p : FVec F S4x12x2x8192x8192 .f32) (lam : FVec F S_ .f32) : FVec F S4x12x8192x8192 .f32 :=
  subf (shapeCast _ (extractStridedSlice S4x12x1x8192x8192 ![0, 0, 0, 0, 0] p slices_S4x12x2x8192x8192_S4x12x1x8192x8192_0_0_0_0_0) shapeCasts_S4x12x1x8192x8192_S4x12x8192x8192) (mulf (broadcastInDim S4x12x8192x8192 ![] bcast_S_S4x12x8192x8192 lam) (shapeCast _ (extractStridedSlice S4x12x1x8192x8192 ![0, 0, 1, 0, 0] p slices_S4x12x2x8192x8192_S4x12x1x8192x8192_0_0_1_0_0) shapeCasts_S4x12x1x8192x8192_S4x12x8192x8192))

/-- The weighted sums of the values. -/
def oH (a : FVec F S4x12x8192x8192 .f32) : FVec F S4x8192x12x128 .f32 :=
  extf .f32 (truncf .bf16 (transpose S4x8192x12x128 [0, 3, 1, 2] (Host.dotGeneral dot_S4x8192x12x128_S4x12x8192x8192_S4x12x128x8192_1_3_3_2_02_01 none (vH X) (truncf .bf16 a bitsLt_bf16_f32)) transposes_S4x12x128x8192_S4x8192x12x128_0_3_1_2) bitsLt_bf16_f32) bitsLt_bf16_f32

/-- The inverse root mean square of a head's row. -/
def rmsH (o : FVec F S4x8192x12x128 .f32) : FVec F S4x8192x12x1 .f32 :=
  Host.rsqrt (addf (Host.divf (broadcastInDim S4x8192x12x1 ![0, 1, 2] bcast_S4x8192x12_S4x8192x12x1_0_1_2 (Host.reduceAdd (mulf o o) (constant S_ .f32 0x00000000#32) reducesTo_S4x8192x12x128_S4x8192x12_d3 h_S_)) (broadcastInDim S4x8192x12x1 ![] bcast_S_S4x8192x12x1 (constant S_ .f32 0x43000000#32))) (broadcastInDim S4x8192x12x1 ![] bcast_S_S4x8192x12x1 (constant S_ .f32 0x358637BD#32)))

/-- The heads' rows, normalised and scaled. -/
def nH (o : FVec F S4x8192x12x128 .f32) : FVec F S4x8192x12x128 .bf16 :=
  truncf .bf16 (mulf (extf .f32 (truncf .bf16 (mulf (mulf o (broadcastInDim S4x8192x12x128 ![0, 1, 2, 3] bcast_S4x8192x12x1_S4x8192x12x128_0_1_2_3 (rmsH o))) (broadcastInDim S4x8192x12x128 ![0, 1, 2, 3] bcast_S1x1x1x128_S4x8192x12x128_0_1_2_3 (broadcastInDim S1x1x1x128 ![3] bcast_S128_S1x1x1x128_3 (shapeCast _ W shapeCasts_S128x1_S128)))) bitsLt_bf16_f32) bitsLt_bf16_f32) (broadcastInDim S4x8192x12x128 ![] bcast_S_S4x8192x12x128 (constant S_ .f32 0x3F24FD5C#32))) bitsLt_bf16_f32

/-- The result. -/
def outH : FVec F S32768x1536 .bf16 :=
  shapeCast _ (nH W (oH X (awH (prH (exH (zH (sH X)))) (lamH L)))) shapeCasts_S4x8192x12x128_S32768x1536

/-- The reference's result is that of its arguments. -/
theorem res_eq (m : (ℓ : Loc nD τ sig) → Buf (Elt F) ℓ) (c : Dev nD) :
    Value.res_out0 m c = outH (m ((c : Thread nD τ).loc main_arg0)) (m ((c : Thread nD τ).loc main_arg1)) (m ((c : Thread nD τ).loc main_arg2)) := by
  unfold Value.res_out0 Value.res_main_v75
  rfl

end Cert.Attn.Ref

end
-- ==== Proof.Attn.Math.lean ====
/- The running softmax of one column over the reals: its maximum is some real number, and its sums are the sums of 2 to the
   scores less that number, weighted by the values. Which number it is does not matter: it cancels in the quotient. -/
module

public import Idealize.ShloMosaic.PureOps.Ideal
public import Idealize.ShloMosaic.PureOps.Ideal.Laws

@[expose] public section

noncomputable section

namespace Cert.Attn

open Idealize.ShloMosaic

/-- The sum over the first `n` keys that are seen of `V` times 2 to the score less `μ`. -/
def wsum (V S : ℕ → ℝ) (vis : ℕ → Prop) [DecidablePred vis] (n : ℕ) (μ : ℝ) : ℝ :=
  ∑ j ∈ Finset.range n, if vis j then V j * (2 : ℝ) ^ (S j - μ) else 0

/-- What a column holds after `n` keys: its maximum `m`, and its sums `a`, one per row. -/
def Col {R : ℕ} (V : Fin R → ℕ → ℝ) (S : ℕ → ℝ) (vis : ℕ → Prop) [DecidablePred vis] (n : ℕ) (m : EReal) (a : Fin R → EReal) : Prop :=
  (n = 0 ∧ m = ⊥ ∧ ∀ r, a r = 0) ∨ ∃ μ : ℝ, m = μ ∧ ∀ r, a r = (wsum (V r) S vis n μ : ℝ)

theorem wsum_shift (V S : ℕ → ℝ) (vis : ℕ → Prop) [DecidablePred vis] (n : ℕ) (μ ν : ℝ) :
    (2 : ℝ) ^ (μ - ν) * wsum V S vis n μ = wsum V S vis n ν := by
  unfold wsum
  rw [Finset.mul_sum]
  refine Finset.sum_congr rfl fun j _ => ?_
  split_ifs
  · rw [mul_left_comm, ← Real.rpow_add (by norm_num)]; congr 2; ring
  · simp

/-- The fold of a maximum is a bound: -/
theorem le_fold_max {ι : Type} (s : Finset ι) (f : ι → EReal) (b : EReal) (j : ι) (hj : j ∈ s) : f j ≤ s.fold max b f :=
  Finset.le_fold_max (f j) |>.mpr (Or.inr ⟨j, hj, le_rfl⟩)

/-- and it is reached. -/
theorem fold_max_ne_top {ι : Type} (s : Finset ι) (f : ι → EReal) (b : EReal) (hb : b ≠ ⊤) (h : ∀ j ∈ s, f j ≠ ⊤) : s.fold max b f ≠ ⊤ := by
  refine ne_of_lt ((Finset.fold_max_lt ⊤).mpr ⟨lt_top_iff_ne_top.mpr hb, fun j hj => lt_top_iff_ne_top.mpr (h j hj)⟩)

theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- **One step of the running softmax**: `N` further keys, whose scores are real where they are seen and −∞ where not. -/
theorem Col.step {R N : ℕ} {V : Fin R → ℕ → ℝ} {S : ℕ → ℝ} {vis : ℕ → Prop} [DecidablePred vis] {n : ℕ} {m : EReal} {a : Fin R → EReal}
    (h : Col V S vis n m a) (h0 : n = 0 → vis 0) (hN : 0 < N) (s : Fin N → EReal) (hs : ∀ j, s j = if vis (n + j.val) then ((S (n + j.val) : ℝ) : EReal) else ⊥)
    (v : Fin R → Fin N → EReal) (hv : ∀ r j, v r j = (V r (n + j.val) : ℝ)) (M : EReal) (hM : M = max m (Finset.univ.fold max ⊥ s)) :
    Col V S vis (n + N) M fun r => Ideal.exp2 (m - M) * a r + (0 + ∑ j, v r j * Ideal.exp2 (s j - M)) := by
  have hstop : ∀ j, s j ≠ ⊤ := fun j => by rw [hs]; split_ifs <;> simp
  have hmtop : m ≠ ⊤ := by
    rcases h with ⟨_, h, _⟩ | ⟨μ, h, _⟩ <;> simp [h]
  have hMtop : M ≠ ⊤ := by
    rw [hM]
    have := fold_max_ne_top Finset.univ s ⊥ (by simp) fun j _ => hstop j
    rcases max_choice m (Finset.univ.fold max ⊥ s) with e | e <;> rw [e] <;> assumption
  have hMbot : M ≠ ⊥ := by
    rw [hM]
    rcases h with ⟨hn, _, _⟩ | ⟨μ, h, _⟩
    · have h1 := le_fold_max Finset.univ s ⊥ (⟨0, hN⟩ : Fin N) (Finset.mem_univ _)
      rw [hs, if_pos (by simpa [hn] using h0 hn)] at h1
      exact ne_of_gt (lt_of_lt_of_le (EReal.bot_lt_coe _) (h1.trans (le_max_right _ _)))
    · exact ne_of_gt (lt_of_lt_of_le (h ▸ EReal.bot_lt_coe μ) (le_max_left _ _))
  obtain ⟨ν, rfl⟩ : ∃ ν : ℝ, M = ν := ⟨M.toReal, (EReal.coe_toReal hMtop hMbot).symm⟩
  refine Or.inr ⟨ν, rfl, fun r => ?_⟩
  have h1 : Ideal.exp2 (m - ν) * a r = (wsum (V r) S vis n ν : ℝ) := by
    rcases h with ⟨hn, hm, ha⟩ | ⟨μ, hm, ha⟩
    · rw [ha r, mul_zero, hn]; simp [wsum]
    · rw [ha r, hm, ← EReal.coe_sub, Ideal.exp2_coe, ← EReal.coe_mul, ← wsum_shift (V r) S vis n μ ν]; rfl
  have h2 : (∑ j, v r j * Ideal.exp2 (s j - ν)) = ((∑ j : Fin N, if vis (n + j.val) then V r (n + j.val) * (2 : ℝ) ^ (S (n + j.val) - ν) else 0 : ℝ) : EReal) := by
    rw [coe_sum]
    refine Finset.sum_congr rfl fun j _ => ?_
    rw [hv, hs]
    split_ifs
    · rw [← EReal.coe_sub, Ideal.exp2_coe, ← EReal.coe_mul]; rfl
    · rw [EReal.bot_sub, Ideal.exp2_bot, mul_zero]; simp
  show Ideal.exp2 (m - ν) * a r + (0 + ∑ j, v r j * Ideal.exp2 (s j - ν)) = _
  rw [h1, h2, zero_add, ← EReal.coe_add]
  congr 1
  unfold wsum
  rw [Finset.sum_range_add, ← Finset.sum_range (fun j => if vis (n + j) then V r (n + j) * (2 : ℝ) ^ (S (n + j) - ν) else 0)]

/-- After the last key the quotient of two of the sums does not depend on the maximum, when the lower one counts. -/
theorem Col.quot {R : ℕ} {V : Fin R → ℕ → ℝ} {S : ℕ → ℝ} {vis : ℕ → Prop} [DecidablePred vis] {n : ℕ} {m : EReal} {a : Fin R → EReal}
    (h : Col V S vis n m a) (hn : 0 < n) (h0 : vis 0) (r e : Fin R) (he : ∀ j, V e j = 1) :
    Ideal.div (a r) (a e) = ((wsum (V r) S vis n 0 / wsum (fun _ => 1) S vis n 0 : ℝ) : EReal) := by
  rcases h with ⟨hz, _⟩ | ⟨μ, _, ha⟩
  · omega
  · have hpos : ∀ ν, 0 < wsum (fun _ => 1) S vis n ν := fun ν => by
      unfold wsum
      refine Finset.sum_pos' (fun j _ => ?_) ⟨0, Finset.mem_range.mpr hn, ?_⟩
      · split_ifs <;> positivity
      · rw [if_pos h0]; positivity
    have hV : V e = fun _ => 1 := funext he
    rw [ha r, ha e, hV, Ideal.div_coe (hpos μ).ne', ← EReal.coe_mul]
    congr 1
    rw [← wsum_shift (V r) S vis n 0 μ, ← wsum_shift (fun _ => 1) S vis n 0 μ]
    have h2 : (2 : ℝ) ^ (0 - μ) ≠ 0 := (Real.rpow_pos_of_pos (by norm_num) _).ne'
    have := (hpos 0).ne'
    field_simp

end Cert.Attn

end
-- ==== Proof.Attn.RefMath.lean ====
/- The softmax of one row, with its maximum taken off, over the reals. -/
module

public import proofs.«01_k».proof.Proof.Attn.Math

@[expose] public section

noncomputable section

namespace Cert.Attn

open Idealize.ShloMosaic

/-- A sum over all the keys of a row. -/
theorem wsum_fin (V S : ℕ → ℝ) (t : ℕ) (ν : ℝ) :
    wsum V S (fun n => n ≤ t) 8192 ν = ∑ k : Fin 8192, if k.val ≤ t then V k.val * (2 : ℝ) ^ (S k.val - ν) else 0 :=
  Finset.sum_range fun k => if k ≤ t then V k * (2 : ℝ) ^ (S k - ν) else 0

theorem wsum_one_pos (S : ℕ → ℝ) (t : ℕ) (ν : ℝ) : 0 < wsum (fun _ => 1) S (fun n => n ≤ t) 8192 ν := by
  unfold wsum
  refine Finset.sum_pos' (fun j _ => ?_) ⟨0, Finset.mem_range.mpr (by norm_num), ?_⟩
  · split_ifs <;> positivity
  · rw [if_pos (Nat.zero_le _)]; positivity

/-- **A row of the softmax**: powers of 2 over their sum. -/
theorem soft_row (S : ℕ → ℝ) (t : ℕ) (z : Fin 8192 → EReal)
    (hz : ∀ k, z k = if k.val ≤ t then ((S k.val * Real.log 2 : ℝ) : EReal) else ⊥) :
    ∃ ν : ℝ, ∀ k, Ideal.div (Ideal.exp (z k - max ⊥ (Finset.univ.fold max ⊥ z))) (∑ x, Ideal.exp (z x - max ⊥ (Finset.univ.fold max ⊥ z)))
      = (((if k.val ≤ t then (2 : ℝ) ^ (S k.val - ν) else 0) / wsum (fun _ => 1) S (fun n => n ≤ t) 8192 ν : ℝ) : EReal) := by
  have htop : Finset.univ.fold max ⊥ z ≠ ⊤ := fold_max_ne_top _ _ _ (by simp) fun k _ => by rw [hz]; split_ifs; exacts [EReal.coe_ne_top _, bot_ne_top]
  have hbot : Finset.univ.fold max ⊥ z ≠ ⊥ := by
    have h := le_fold_max Finset.univ z ⊥ (⟨0, by norm_num⟩ : Fin 8192) (Finset.mem_univ _)
    rw [hz, if_pos (Nat.zero_le _)] at h
    exact ne_of_gt (lt_of_lt_of_le (EReal.bot_lt_coe _) h)
  rw [max_eq_right bot_le]
  generalize Finset.univ.fold max ⊥ z = M at htop hbot ⊢
  obtain ⟨μ, rfl⟩ : ∃ μ : ℝ, M = μ := ⟨M.toReal, (EReal.coe_toReal htop hbot).symm⟩
  have hl : Real.log 2 ≠ 0 := (Real.log_pos (by norm_num)).ne'
  have he : ∀ k, Ideal.exp (z k - μ) = ((if k.val ≤ t then (2 : ℝ) ^ (S k.val - μ / Real.log 2) else 0 : ℝ) : EReal) := fun k => by
    rw [hz]
    split_ifs
    · rw [← EReal.coe_sub, Ideal.exp_coe, Real.rpow_def_of_pos (by norm_num)]
      congr 2
      field_simp
    · rw [EReal.bot_sub, Ideal.exp_bot]; simp
  refine ⟨μ / Real.log 2, fun k => ?_⟩
  have hs : ∑ x, Ideal.exp (z x - μ) = ((wsum (fun _ => 1) S (fun n => n ≤ t) 8192 (μ / Real.log 2) : ℝ) : EReal) := by
    rw [wsum_fin, coe_sum]
    refine Finset.sum_congr rfl fun x _ => ?_
    rw [he]; simp only [one_mul]
  rw [hs, he, Ideal.div_coe (wsum_one_pos S t _).ne', ← EReal.coe_mul, mul_one_div]

/-- The weighted sum of the values, free of the maximum taken off. -/
theorem weighted (V S : ℕ → ℝ) (t : ℕ) (ν : ℝ) :
    ∑ k : Fin 8192, V k.val * ((if k.val ≤ t then (2 : ℝ) ^ (S k.val - ν) else 0) / wsum (fun _ => 1) S (fun n => n ≤ t) 8192 ν)
      = wsum V S (fun n => n ≤ t) 8192 0 / wsum (fun _ => 1) S (fun n => n ≤ t) 8192 0 := by
  have h1 : ∑ k : Fin 8192, V k.val * ((if k.val ≤ t then (2 : ℝ) ^ (S k.val - ν) else 0) / wsum (fun _ => 1) S (fun n => n ≤ t) 8192 ν)
      = wsum V S (fun n => n ≤ t) 8192 ν / wsum (fun _ => 1) S (fun n => n ≤ t) 8192 ν := by
    rw [wsum_fin V, Finset.sum_div]
    refine Finset.sum_congr rfl fun k _ => ?_
    split_ifs
    · rw [mul_div_assoc]
    · simp
  rw [h1, ← wsum_shift V S _ 8192 0 ν, ← wsum_shift (fun _ => 1) S _ 8192 0 ν]
  have h2 : (2 : ℝ) ^ (0 - ν) ≠ 0 := (Real.rpow_pos_of_pos (by norm_num) _).ne'
  have := (wsum_one_pos S t 0).ne'
  field_simp

/-- The difference of two real weights, summed. -/
theorem diff_sum (V w0 w1 : Fin 8192 → ℝ) (l : ℝ) :
    ∑ k, (V k : EReal) * ((w0 k : EReal) - (l : EReal) * (w1 k : EReal)) = ((∑ k, V k * w0 k : ℝ) : EReal) - (l : EReal) * ((∑ k, V k * w1 k : ℝ) : EReal) := by
  rw [← EReal.coe_mul, ← EReal.coe_sub, Finset.mul_sum, ← Finset.sum_sub_distrib, coe_sum]
  refine Finset.sum_congr rfl fun k _ => ?_
  rw [← EReal.coe_mul, ← EReal.coe_sub, ← EReal.coe_mul]
  congr 1
  ring

end Cert.Attn

end
-- ==== Proof.Attn.RefVal.lean ====
/- The reference's arrays at an index. -/
module

public import proofs.«01_k».proof.Proof.Attn.RefDefs
public import proofs.«01_k».proof.Proof.Attn.RefMath
public import Idealize.ShloMosaic.Lib.Pointwise
public import Idealize.ShloMosaic.Lib.Affine

@[expose] public section

set_option maxRecDepth 16384

noncomputable section

namespace Cert.Attn.Ref

open Cert.ReferenceIdeal Cert.ReferenceIdeal.Gen Idealize.ShloMosaic Idealize.ShloMosaic.TcCoe Idealize.SL.Sem

variable (X : FVec Ideal S32768x5120 .bf16) (L : FVec Ideal S4x64 .f32) (W : FVec Ideal S128x1 .f32)

/-- Queries, halves apart. -/
theorem qH_apply (b : Fin 4) (s : Fin 8192) (h : Fin 12) (e : Fin 2) (d : Fin 64) :
    qH X (ix5 b s h e d) = X (ix2 (⟨8192 * b.val + s.val, by omega⟩ : Fin 32768) (⟨3072 + 128 * h.val + 64 * e.val + d.val, by omega⟩ : Fin 5120)) := by
  pointwise [qH]
  exact congrArg X (congrArg₂ ix2 (Fin.ext (by show b.val * 8192 + s.val = 8192 * b.val + s.val; omega))
    (Fin.ext (by show 3072 + (h.val * 128 + e.val * 64 + d.val) = 3072 + 128 * h.val + 64 * e.val + d.val; omega)))

/-- Keys, halves apart. -/
theorem kH_apply (b : Fin 4) (s : Fin 8192) (h : Fin 12) (e : Fin 2) (d : Fin 64) :
    kH X (ix5 b s h e d) = X (ix2 (⟨8192 * b.val + s.val, by omega⟩ : Fin 32768) (⟨128 * h.val + 64 * e.val + d.val, by omega⟩ : Fin 5120)) := by
  pointwise [kH]
  exact congrArg X (congrArg₂ ix2 (Fin.ext (by show b.val * 8192 + s.val = 8192 * b.val + s.val; omega))
    (Fin.ext (by show h.val * 128 + e.val * 64 + d.val = 128 * h.val + 64 * e.val + d.val; omega)))

/-- Values. -/
theorem vH_apply (b : Fin 4) (s : Fin 8192) (h : Fin 12) (r : Fin 128) :
    vH X (ix4 b s h r) = X (ix2 (⟨8192 * b.val + s.val, by omega⟩ : Fin 32768) (⟨1536 + 128 * h.val + r.val, by omega⟩ : Fin 5120)) := by
  pointwise [vH]
  exact congrArg X (congrArg₂ ix2 (Fin.ext (by show b.val * 8192 + s.val = 8192 * b.val + s.val; omega))
    (Fin.ext (by show 1536 + (h.val * 128 + r.val) = 1536 + 128 * h.val + r.val; omega)))

/-- Scores, in base 2. -/
theorem sH_apply (b : Fin 4) (h : Fin 12) (e : Fin 2) (q k : Fin 8192) :
    sH X (ix5 b h e q k) = (∑ x, qH X (ix5 b q h e x) * kH X (ix5 b k h e x)) * Ideal.log (Ideal.ofBits FTy.f32 1073741824#32) := by
  pointwise [sH]

/-- The mask's value. -/
theorem neg_inf : Ideal.ofBits .f32 0xFF800000#32 = (⊥ : EReal) := by simp [Ideal.ofBits, Ideal.ieee]

/-- The scale to base 2. -/
theorem log_two : Ideal.log (Ideal.ofBits FTy.f32 1073741824#32) = ((Real.log 2 : ℝ) : EReal) := by
  have e : Ideal.ofBits FTy.f32 1073741824#32 = ((2 : ℝ) : EReal) := by
    simp [Ideal.ofBits, Ideal.ieee]
    rw [← EReal.coe_mul]
    norm_num
  rw [e, Ideal.log_coe, if_neg (by norm_num)]

/-- Masked scores. -/
theorem zH_apply (s : FVec Ideal S4x12x2x8192x8192 .f32) (b : Fin 4) (h : Fin 12) (e : Fin 2) (q k : Fin 8192) :
    zH (F := Ideal) s (ix5 b h e q k) = if k.val ≤ q.val then s (ix5 b h e q k) else (⊥ : EReal) := by
  pointwise [zH, mkH]
  have hk := k.isLt
  have hq := q.isLt
  have e1 : IntOp.cmpi CmpIPredicate.sle (BitVec.ofNat 32 k.val) (BitVec.ofNat 32 q.val) = 1#1 ↔ k.val ≤ q.val := by
    rw [IntOp.cmpi_sle, BitVec.toInt_ofNat', BitVec.toInt_ofNat']
    simp [Int.bmod]
    omega
  show (if IntOp.cmpi CmpIPredicate.sle (BitVec.ofNat 32 k.val) (BitVec.ofNat 32 q.val) = 1#1 then s (ix5 b h e q k) else Ideal.ofBits .f32 0xFF800000#32) = _
  rw [neg_inf]
  exact if_congr e1 rfl rfl

theorem red5 : S4x12x2x8192x8192.Reduces [4] S4x12x2x8192 := by decide

/-- The index of a row with its key put back. -/
theorem lift5 (b : Fin 4) (h : Fin 12) (e : Fin 2) (q : Fin 8192) (k : Fin (S4x12x2x8192x8192.size 4)) : red5.lift (ix4 b h e q) k = ix5 b h e q (⟨k.val, k.isLt⟩ : Fin 8192) := by
  funext c; apply Fin.ext
  fin_cases c <;> rfl

/-- The maximum over the same indices, under an equal bound. -/
theorem fold_cast {n n' : ℕ} (h : n = n') (b : EReal) (f : Fin n → EReal) (g : Fin n' → EReal) (hg : ∀ k, f k = g (Fin.cast h k)) :
    Finset.univ.fold max b f = Finset.univ.fold max b g := by
  subst h
  rw [show f = g from funext hg]

theorem maxred (z : FVec Ideal S4x12x2x8192x8192 .f32) (v : FVec Ideal S_ .f32) (j : S4x12x2x8192.Idx) :
    Host.reduce FloatOps.maximumf z v reducesTo_S4x12x2x8192x8192_S4x12x2x8192_d4 h_S_ j = Finset.univ.fold (max : EReal → EReal → EReal) (v (Shape.Idx.first h_S_)) (z ∘ red5.lift j) :=
  Host.reduce_eq_fold_single FloatOps.maximumf z v _ red5 h_S_ j

/-- The reference's row maximum, before it meets the mask's value once more. -/
theorem maxred' (z : FVec Ideal S4x12x2x8192x8192 .f32) (b : Fin 4) (h : Fin 12) (e : Fin 2) (q : Fin 8192) :
    Host.reduce FloatOps.maximumf z (constant (F := Ideal) S_ .f32 0xFF800000#32) reducesTo_S4x12x2x8192x8192_S4x12x2x8192_d4 h_S_ (ix4 b h e q)
      = Finset.univ.fold max (Ideal.ofBits .f32 0xFF800000#32) fun k : Fin 8192 => z (ix5 b h e q k) :=
  (maxred z _ _).trans (fold_cast (show S4x12x2x8192x8192.size 4 = 8192 from rfl) _ _ _ fun k => congrArg z (lift5 b h e q k))

theorem max_apply {s : Shape} (u v : FVec Ideal s .f32) (i : s.Idx) : maximumf u v i = max (u i) (v i) := rfl

/-- A row's maximum. -/
theorem mxH_apply (z : FVec Ideal S4x12x2x8192x8192 .f32) (b : Fin 4) (h : Fin 12) (e : Fin 2) (q : Fin 8192) :
    mxH (F := Ideal) z (ix4 b h e q) = max (⊥ : EReal) (Finset.univ.fold max ⊥ fun k : Fin 8192 => z (ix5 b h e q k)) := by
  unfold mxH
  rw [max_apply, maxred', neg_inf]
  exact congrArg (fun x : EReal => max x _) neg_inf

/-- Exponentials of a row, its maximum taken off. -/
theorem exH_apply (z : FVec Ideal S4x12x2x8192x8192 .f32) (b : Fin 4) (h : Fin 12) (e : Fin 2) (q k : Fin 8192) :
    exH (F := Ideal) z (ix5 b h e q k) = Ideal.exp (z (ix5 b h e q k) - mxH z (ix4 b h e q)) := by
  pointwise [exH]

/-- A row of the softmax. -/
theorem prH_apply (s : FVec Ideal S4x12x2x8192x8192 .f32) (b : Fin 4) (h : Fin 12) (e : Fin 2) (q k : Fin 8192) :
    prH (F := Ideal) s (ix5 b h e q k) = Ideal.div (s (ix5 b h e q k)) (∑ x, s (ix5 b h e q x)) := by
  pointwise [prH]

/-- The weight of the second softmax. -/
theorem lamH_apply (i : S_.Idx) :
    lamH L i = Ideal.exp (∑ x, L (ix2 (0 : Fin 4) x) * L (ix2 (1 : Fin 4) x)) - Ideal.exp (∑ x, L (ix2 (2 : Fin 4) x) * L (ix2 (3 : Fin 4) x)) + Ideal.ofBits FTy.f32 1052116297#32 := by
  pointwise [lamH]

/-- The differential weights. -/
theorem awH_apply (p : FVec Ideal S4x12x2x8192x8192 .f32) (lam : FVec Ideal S_ .f32) (b : Fin 4) (h : Fin 12) (q k : Fin 8192) :
    awH (F := Ideal) p lam (ix4 b h q k) = p (ix5 b h 0 q k) - lam ix0 * p (ix5 b h 1 q k) := by
  pointwise [awH]

/-- The weighted sum of the values. -/
theorem oH_apply (p : FVec Ideal S4x12x8192x8192 .f32) (b : Fin 4) (h : Fin 12) (q : Fin 8192) (r : Fin 128) :
    oH X p (ix4 b q h r) = ∑ x, vH X (ix4 b x h r) * p (ix4 b h q x) := by
  pointwise [oH]

/-- The normed row, scaled. -/
theorem nH_apply (o : FVec Ideal S4x8192x12x128 .f32) (b : Fin 4) (h : Fin 12) (q : Fin 8192) (r : Fin 128) :
    nH W o (ix4 b q h r) = o (ix4 b q h r) * Ideal.rsqrt (Ideal.div (∑ x, o (ix4 b q h x) * o (ix4 b q h x)) (Ideal.ofBits FTy.f32 1124073472#32) + Ideal.ofBits FTy.f32 897988541#32) * W (ix2 r (0 : Fin 1)) * Ideal.ofBits FTy.f32 1059388764#32 := by
  pointwise [nH, rmsH]

/-- The result, heads side by side. -/
theorem outH_apply (i : Fin 32768) (j : Fin 1536) :
    outH X L W (ix2 i j) = nH W (oH X (awH (prH (exH (zH (sH X)))) (lamH L)))
      (ix4 (⟨i.val / 8192, by omega⟩ : Fin 4) (⟨i.val % 8192, by omega⟩ : Fin 8192) (⟨j.val / 128, by omega⟩ : Fin 12) (⟨j.val % 128, by omega⟩ : Fin 128)) := by
  pointwise [outH]

end Cert.Attn.Ref

end
-- ==== Proof.Attn.Steps.lean ====
/- One step of the running softmax, as the kernel states it on a block of 256 keys and 256 query columns. -/
module

public import proofs.«01_k».proof.Proof.Gen.KernelIdeal.Skeleton
public import Idealize.ShloMosaic.Lib.Pipeline.ReadBack
public import Idealize.ShloMosaic.Lib.Pipeline.Kit

@[expose] public section

noncomputable section

namespace Cert.Attn

open Idealize.ShloMosaic Idealize.SL.Sem Cert.KernelIdeal Cert.KernelIdeal.Gen

variable {F : FTy → Type} [FloatOps F]

/-- The maximum of what a column had and of its scores. -/
def mMax (s : FVec F S256x256 .f32) (m : FVec F S1x256 .f32) : FVec F S1x256 .f32 :=
  maximumf m (shapeCast S1x256 (multiReduction .maximumf [0] S256 s 0xFF800000#32 reduces_S256x256_S256 (.inl rfl) rfl) shapeCasts_S256_S1x256)

/-- The running maximum that is stored. -/
def mStep (s : FVec F S256x256 .f32) (m : FVec F S1x256 .f32) : FVec F S1x256 .f32 :=
  shapeCast S1x256 (mMax s m) shapeCasts_S1x256_S1x256

/-- The running sums that are stored: the old ones scaled to the new maximum, and the product of the values with
    the new weights. -/
def aStep (s : FVec F S256x256 .f32) (m : FVec F S1x256 .f32) (vt : Vec F S144x256 .bf16) (a : Vec F S144x256 .f32) : FVec F S144x256 .f32 :=
  shapeCast S144x256
    (addf (mulf (broadcastTo S144x256 (exp2 (subf m (mMax s m))) broadcasts_S1x256_S144x256) a)
      (matmul dot_S144x256_S256x256_S144x256_1_0_0_1_n_n none vt
        (truncf .bf16 (exp2 (subf s (broadcastTo S256x256 (mMax s m) broadcasts_S1x256_S256x256))) bitsLt_bf16_f32)
        (constant S144x256 .f32 0x00000000#32)))
    shapeCasts_S144x256_S144x256

/-- The scores of 256 keys with 256 query columns. -/
def score (k : Vec F S256x128 .bf16) (q : Vec F S128x256 .bf16) : FVec F S256x256 .f32 :=
  matmul dot_S256x128_S128x256_S256x256_1_0_0_1_n_n none k q (constant S256x256 .f32 0x00000000#32)

/-- Both together. -/
def stepMA (s : FVec F S256x256 .f32) (vt : Vec F S144x256 .bf16) (p : FVec F S1x256 .f32 × FVec F S144x256 .f32) : FVec F S1x256 .f32 × FVec F S144x256 .f32 :=
  (mStep s p.1, aStep s p.1 vt p.2)

end Cert.Attn

end
-- ==== Proof.Attn.Trip.lean ====
/- One trip of the kernel's loop over whole key tiles: each of the eight column blocks goes through four blocks of
   256 keys. -/
module

import Mathlib.Tactic.IntervalCases
public import proofs.«01_k».proof.Proof.Attn.Steps
public import proofs.«01_k».proof.Proof.Gen.KernelIdeal.Loops

@[expose] public section

set_option maxRecDepth 16384

noncomputable section

namespace Cert.Attn

open Idealize.ShloMosaic Idealize.SL.Sem Cert.KernelIdeal Cert.KernelIdeal.Gen

variable {F : FTy → Type} [FloatOps F]
variable (𝒱 : Variants) (c : Dev nD) (bd : Option 𝒱.V) (i : grid0.Coords)
  (arg3 : Memref sig .tc .vmem S1024x128 .bf16) (harg3 : arg3.IsWhole) (arg4 : Memref sig .tc .vmem S8192x128 .bf16) (harg4 : arg4.IsWhole)
  (arg5 : Memref sig .tc .vmem S8192x128 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S1024x128 .bf16) (harg8 : arg8.IsWhole)
  (arg9 : Memref sig .tc .vmem S144x8192 .bf16) (harg9 : arg9.IsWhole) (arg10 : Memref sig .tc .vmem S128x2048 .bf16) (harg10 : arg10.IsWhole)
  (arg11 : Memref sig .tc .vmem S1x2048 .f32) (harg11 : arg11.IsWhole) (arg12 : Memref sig .tc .vmem S144x2048 .f32) (harg12 : arg12.IsWhole)
  (arg13 : Memref sig .tc .vmem S4x256x256 .f32) (harg13 : arg13.IsWhole) (arg2 : BitVec 32) (c0_i32_40 : BitVec 32) (v55 : BitVec 32)
  (X4 : BufTy.Contents (Elt F) arg4.view.ty) (X9 : BufTy.Contents (Elt F) arg9.view.ty) (X10 : BufTy.Contents (Elt F) arg10.view.ty)
  (k : Fin (k0_t1_loop i).trips)
  (f11 : BufTy.Contents (Elt F) arg11.view.ty) (f12 : BufTy.Contents (Elt F) arg12.view.ty) (f13 : BufTy.Contents (Elt F) arg13.view.ty)

/-- The place of column block `j` in the row of maxima, -/
abbrev cM (j : Fin 8) : LoadRect S1x2048 := (Rect.unit (s := S1x2048) ![0, 256 * j.val] S1x256.size (fun a => by fin_cases a <;> simp <;> omega)).toLoadRect

/-- and in the sums. -/
abbrev cA (j : Fin 8) : LoadRect S144x2048 := (Rect.unit (s := S144x2048) ![0, 256 * j.val] S144x256.size (fun a => by fin_cases a <;> simp <;> omega)).toLoadRect

/-- and in the queries. -/
abbrev cQ (j : Fin 8) : LoadRect S128x2048 := (Rect.unit (s := S128x2048) ![0, 256 * j.val] S128x256.size (fun a => by fin_cases a <;> simp <;> omega)).toLoadRect

/-- Plane `j` of the scores computed ahead. -/
abbrev cP (j : Fin 4) : LoadRect S4x256x256 := (Rect.unit (s := S4x256x256) ![j.val, 0, 0] S1x256x256.size (fun a => by fin_cases a <;> simp <;> omega)).toLoadRect

theorem off1_inb (b : Fin 4) (a : Fin 2) : (k0_off1 i k 0#32 (BitVec.ofNat 32 (256 * b.val))) a + S256x128.size a ≤ S8192x128.size a :=
  match b with
  | 0 => k0_off1_inb i k 0 a
  | 1 => k0_off1_inb i k 1 a
  | 2 => k0_off1_inb i k 2 a
  | 3 => k0_off1_inb i k 3 a

/-- The scores of key block `b` of the trip's tile with column block `j`. -/
def tripS (b : Fin 4) (j : Fin 8) : FVec F S256x256 .f32 :=
  score (View.readAt (Elt F) arg4.view (Rect.unit (s := S8192x128) (k0_off1 i k 0#32 (BitVec.ofNat 32 (256 * b.val))) S256x128.size (off1_inb i k b)).toLoadRect X4)
    (View.readAt (Elt F) arg10.view (cQ j) X10)

theorem off2_inb (b : Fin 4) (a : Fin 2) : (k0_off2 i k (BitVec.ofNat 32 (256 * b.val))) a + S144x256.size a ≤ S144x8192.size a :=
  k0_off2_inb i k b a

/-- The values of key block `b` of the trip's tile, transposed. -/
def tripV (b : Fin 4) : Vec F S144x256 .bf16 :=
  View.readAt (Elt F) arg9.view (Rect.unit (s := S144x8192) (k0_off2 i k (BitVec.ofNat 32 (256 * b.val))) S144x256.size (off2_inb i k b)).toLoadRect X9

/-- What a trip makes of column block `j`, whose first scores are `s0`. -/
def tripMA (s0 : FVec F S256x256 .f32) (j : Fin 8) : FVec F S1x256 .f32 × FVec F S144x256 .f32 :=
  stepMA (tripS i arg4 arg10 X4 X10 k 3 j) (tripV i arg9 X9 k 3) (stepMA (tripS i arg4 arg10 X4 X10 k 2 j) (tripV i arg9 X9 k 2)
    (stepMA (tripS i arg4 arg10 X4 X10 k 1 j) (tripV i arg9 X9 k 1) (stepMA s0 (tripV i arg9 X9 k 0)
      (View.readAt (Elt F) arg11.view (cM j) f11, View.readAt (Elt F) arg12.view (cA j) f12))))

set_option maxHeartbeats 1000000 in
/-- The maxima that a trip leaves, -/
theorem trip_m (R : List (View.Piece (Elt F) S1x2048 .f32)) (s0 : Fin 8 → FVec F S256x256 .f32) (h0 : ∀ j (h : j < 4), s0 ⟨j, by omega⟩ = shapeCast S256x256 (View.readAt (Elt F) arg13.view (cP ⟨j, h⟩) f13) shapeCasts_S1x256x256_S256x256)
    (h4 : ∀ j (h : 4 ≤ j) (h' : j < 8), s0 ⟨j, h'⟩ = tripS i arg4 arg10 X4 X10 k 0 ⟨j, h'⟩) (j : Fin 8) :
    arg11.view.readCov ((trip_k0_t1 (F := F) 𝒱 c bd i arg3 harg3 arg4 harg4 arg5 harg5 arg6 harg6 arg7 harg7 arg8 harg8 arg9 harg9 arg10 harg10 arg11 harg11 arg12 harg12 arg13 harg13 arg2 c0_i32_40 v55 X4 X9 X10 k).1 f11 f12 f13 ++ R) (cM j) = (tripMA i arg4 arg9 arg10 arg11 arg12 X4 X9 X10 k f11 f12 (s0 j) j).1 := by
  fin_cases j
  all_goals
    first
    | rw [h0 _ (by decide)]
    | rw [h4 _ (by decide)]
    dsimp only [cM, cA, cP]
    simp only [Nat.reduceMul, Nat.mul_zero, Nat.mul_one]
    unfold trip_k0_t1
    delta trip_k0_t1.sl.HW_arg11_10 trip_k0_t1.sl.HW_arg11_11 trip_k0_t1.sl.HW_arg11_12 trip_k0_t1.sl.HW_arg11_13 trip_k0_t1.sl.HW_arg11_14 trip_k0_t1.sl.HW_arg11_15
      trip_k0_t1.sl.HW_arg11_16 trip_k0_t1.sl.HW_arg11_17 trip_k0_t1.sl.HW_arg11_18 trip_k0_t1.sl.HW_arg11_19 trip_k0_t1.sl.HW_arg11_20 trip_k0_t1.sl.HW_arg11_21
      trip_k0_t1.sl.HW_arg11_22 trip_k0_t1.sl.HW_arg11_23 trip_k0_t1.sl.HW_arg11_24 trip_k0_t1.sl.HW_arg11_25 trip_k0_t1.sl.HW_arg11_26 trip_k0_t1.sl.HW_arg11_27
      trip_k0_t1.sl.HW_arg11_28 trip_k0_t1.sl.HW_arg11_29 trip_k0_t1.sl.HW_arg11_30 trip_k0_t1.sl.HW_arg11_31 trip_k0_t1.sl.HW_arg11_8 trip_k0_t1.sl.HW_arg11_9
      trip_k0_t1.sl.HW_arg12_10 trip_k0_t1.sl.HW_arg12_11 trip_k0_t1.sl.HW_arg12_12 trip_k0_t1.sl.HW_arg12_13 trip_k0_t1.sl.HW_arg12_14 trip_k0_t1.sl.HW_arg12_15
      trip_k0_t1.sl.HW_arg12_16 trip_k0_t1.sl.HW_arg12_17 trip_k0_t1.sl.HW_arg12_18 trip_k0_t1.sl.HW_arg12_19 trip_k0_t1.sl.HW_arg12_20 trip_k0_t1.sl.HW_arg12_21
      trip_k0_t1.sl.HW_arg12_22 trip_k0_t1.sl.HW_arg12_23 trip_k0_t1.sl.HW_arg12_24 trip_k0_t1.sl.HW_arg12_25 trip_k0_t1.sl.HW_arg12_26 trip_k0_t1.sl.HW_arg12_27
      trip_k0_t1.sl.HW_arg12_28 trip_k0_t1.sl.HW_arg12_29 trip_k0_t1.sl.HW_arg12_30 trip_k0_t1.sl.HW_arg12_31 trip_k0_t1.sl.HW_arg12_8 trip_k0_t1.sl.HW_arg12_9 trip_k0_t1.sl.arg14
      trip_k0_t1.sl.r trip_k0_t1.sl.r_1 trip_k0_t1.sl.r_10 trip_k0_t1.sl.r_11 trip_k0_t1.sl.r_12 trip_k0_t1.sl.r_13 trip_k0_t1.sl.r_14 trip_k0_t1.sl.r_15 trip_k0_t1.sl.r_16
      trip_k0_t1.sl.r_17 trip_k0_t1.sl.r_18 trip_k0_t1.sl.r_19 trip_k0_t1.sl.r_2 trip_k0_t1.sl.r_20 trip_k0_t1.sl.r_21 trip_k0_t1.sl.r_22 trip_k0_t1.sl.r_23 trip_k0_t1.sl.r_24
      trip_k0_t1.sl.r_25 trip_k0_t1.sl.r_26 trip_k0_t1.sl.r_27 trip_k0_t1.sl.r_28 trip_k0_t1.sl.r_29 trip_k0_t1.sl.r_3 trip_k0_t1.sl.r_30 trip_k0_t1.sl.r_31 trip_k0_t1.sl.r_32
      trip_k0_t1.sl.r_33 trip_k0_t1.sl.r_34 trip_k0_t1.sl.r_35 trip_k0_t1.sl.r_36 trip_k0_t1.sl.r_37 trip_k0_t1.sl.r_38 trip_k0_t1.sl.r_39 trip_k0_t1.sl.r_4 trip_k0_t1.sl.r_40
      trip_k0_t1.sl.r_41 trip_k0_t1.sl.r_42 trip_k0_t1.sl.r_43 trip_k0_t1.sl.r_44 trip_k0_t1.sl.r_45 trip_k0_t1.sl.r_46 trip_k0_t1.sl.r_47 trip_k0_t1.sl.r_48 trip_k0_t1.sl.r_49
      trip_k0_t1.sl.r_5 trip_k0_t1.sl.r_50 trip_k0_t1.sl.r_51 trip_k0_t1.sl.r_52 trip_k0_t1.sl.r_53 trip_k0_t1.sl.r_54 trip_k0_t1.sl.r_55 trip_k0_t1.sl.r_56 trip_k0_t1.sl.r_57
      trip_k0_t1.sl.r_58 trip_k0_t1.sl.r_59 trip_k0_t1.sl.r_6 trip_k0_t1.sl.r_60 trip_k0_t1.sl.r_61 trip_k0_t1.sl.r_62 trip_k0_t1.sl.r_63 trip_k0_t1.sl.r_64 trip_k0_t1.sl.r_7
      trip_k0_t1.sl.r_8 trip_k0_t1.sl.r_9 trip_k0_t1.sl.v1017 trip_k0_t1.sl.v1029 trip_k0_t1.sl.v1048 trip_k0_t1.sl.v1060 trip_k0_t1.sl.v1079 trip_k0_t1.sl.v1091 trip_k0_t1.sl.v1110
      trip_k0_t1.sl.v1122 trip_k0_t1.sl.v1141 trip_k0_t1.sl.v1153 trip_k0_t1.sl.v1172 trip_k0_t1.sl.v1184 trip_k0_t1.sl.v1203 trip_k0_t1.sl.v1215 trip_k0_t1.sl.v1234
      trip_k0_t1.sl.v1243 trip_k0_t1.sl.v1246 trip_k0_t1.sl.v1265 trip_k0_t1.sl.v1277 trip_k0_t1.sl.v1296 trip_k0_t1.sl.v1308 trip_k0_t1.sl.v1327 trip_k0_t1.sl.v1339
      trip_k0_t1.sl.v1358 trip_k0_t1.sl.v1370 trip_k0_t1.sl.v1389 trip_k0_t1.sl.v1401 trip_k0_t1.sl.v1420 trip_k0_t1.sl.v1432 trip_k0_t1.sl.v1451 trip_k0_t1.sl.v1463
      trip_k0_t1.sl.v1482 trip_k0_t1.sl.v1494 trip_k0_t1.sl.v1513 trip_k0_t1.sl.v1525 trip_k0_t1.sl.v1544 trip_k0_t1.sl.v1556 trip_k0_t1.sl.v1575 trip_k0_t1.sl.v1587
      trip_k0_t1.sl.v1606 trip_k0_t1.sl.v1618 trip_k0_t1.sl.v1637 trip_k0_t1.sl.v1649 trip_k0_t1.sl.v1671 trip_k0_t1.sl.v1683 trip_k0_t1.sl.v1705 trip_k0_t1.sl.v1717
      trip_k0_t1.sl.v1739 trip_k0_t1.sl.v1751 trip_k0_t1.sl.v1773 trip_k0_t1.sl.v1785 trip_k0_t1.sl.v783 trip_k0_t1.sl.v827 trip_k0_t1.sl.v839 trip_k0_t1.sl.v851 trip_k0_t1.sl.v860
      trip_k0_t1.sl.v872 trip_k0_t1.sl.v893 trip_k0_t1.sl.v905 trip_k0_t1.sl.v924 trip_k0_t1.sl.v936 trip_k0_t1.sl.v955 trip_k0_t1.sl.v967 trip_k0_t1.sl.v986 trip_k0_t1.sl.v998
    simp (decide := true) only [Nat.reduceMul, List.cons_append, ↓View.readCov_cons_toLoadRect, ↓View.readCov_skip]
    rfl

set_option maxHeartbeats 1000000 in
/-- the sums, -/
theorem trip_a (R : List (View.Piece (Elt F) S144x2048 .f32)) (s0 : Fin 8 → FVec F S256x256 .f32) (h0 : ∀ j (h : j < 4), s0 ⟨j, by omega⟩ = shapeCast S256x256 (View.readAt (Elt F) arg13.view (cP ⟨j, h⟩) f13) shapeCasts_S1x256x256_S256x256)
    (h4 : ∀ j (h : 4 ≤ j) (h' : j < 8), s0 ⟨j, h'⟩ = tripS i arg4 arg10 X4 X10 k 0 ⟨j, h'⟩) (j : Fin 8) :
    arg12.view.readCov ((trip_k0_t1 (F := F) 𝒱 c bd i arg3 harg3 arg4 harg4 arg5 harg5 arg6 harg6 arg7 harg7 arg8 harg8 arg9 harg9 arg10 harg10 arg11 harg11 arg12 harg12 arg13 harg13 arg2 c0_i32_40 v55 X4 X9 X10 k).2.1 f11 f12 f13 ++ R) (cA j) = (tripMA i arg4 arg9 arg10 arg11 arg12 X4 X9 X10 k f11 f12 (s0 j) j).2 := by
  fin_cases j
  all_goals
    first
    | rw [h0 _ (by decide)]
    | rw [h4 _ (by decide)]
    dsimp only [cM, cA, cP]
    simp only [Nat.reduceMul, Nat.mul_zero, Nat.mul_one]
    unfold trip_k0_t1
    delta trip_k0_t1.sl.HW_arg11_10 trip_k0_t1.sl.HW_arg11_11 trip_k0_t1.sl.HW_arg11_12 trip_k0_t1.sl.HW_arg11_13 trip_k0_t1.sl.HW_arg11_14 trip_k0_t1.sl.HW_arg11_15
      trip_k0_t1.sl.HW_arg11_16 trip_k0_t1.sl.HW_arg11_17 trip_k0_t1.sl.HW_arg11_18 trip_k0_t1.sl.HW_arg11_19 trip_k0_t1.sl.HW_arg11_20 trip_k0_t1.sl.HW_arg11_21
      trip_k0_t1.sl.HW_arg11_22 trip_k0_t1.sl.HW_arg11_23 trip_k0_t1.sl.HW_arg11_24 trip_k0_t1.sl.HW_arg11_25 trip_k0_t1.sl.HW_arg11_26 trip_k0_t1.sl.HW_arg11_27
      trip_k0_t1.sl.HW_arg11_28 trip_k0_t1.sl.HW_arg11_29 trip_k0_t1.sl.HW_arg11_30 trip_k0_t1.sl.HW_arg11_31 trip_k0_t1.sl.HW_arg11_8 trip_k0_t1.sl.HW_arg11_9
      trip_k0_t1.sl.HW_arg12_10 trip_k0_t1.sl.HW_arg12_11 trip_k0_t1.sl.HW_arg12_12 trip_k0_t1.sl.HW_arg12_13 trip_k0_t1.sl.HW_arg12_14 trip_k0_t1.sl.HW_arg12_15
      trip_k0_t1.sl.HW_arg12_16 trip_k0_t1.sl.HW_arg12_17 trip_k0_t1.sl.HW_arg12_18 trip_k0_t1.sl.HW_arg12_19 trip_k0_t1.sl.HW_arg12_20 trip_k0_t1.sl.HW_arg12_21
      trip_k0_t1.sl.HW_arg12_22 trip_k0_t1.sl.HW_arg12_23 trip_k0_t1.sl.HW_arg12_24 trip_k0_t1.sl.HW_arg12_25 trip_k0_t1.sl.HW_arg12_26 trip_k0_t1.sl.HW_arg12_27
      trip_k0_t1.sl.HW_arg12_28 trip_k0_t1.sl.HW_arg12_29 trip_k0_t1.sl.HW_arg12_30 trip_k0_t1.sl.HW_arg12_31 trip_k0_t1.sl.HW_arg12_8 trip_k0_t1.sl.HW_arg12_9 trip_k0_t1.sl.arg14
      trip_k0_t1.sl.r trip_k0_t1.sl.r_1 trip_k0_t1.sl.r_10 trip_k0_t1.sl.r_11 trip_k0_t1.sl.r_12 trip_k0_t1.sl.r_13 trip_k0_t1.sl.r_14 trip_k0_t1.sl.r_15 trip_k0_t1.sl.r_16
      trip_k0_t1.sl.r_17 trip_k0_t1.sl.r_18 trip_k0_t1.sl.r_19 trip_k0_t1.sl.r_2 trip_k0_t1.sl.r_20 trip_k0_t1.sl.r_21 trip_k0_t1.sl.r_22 trip_k0_t1.sl.r_23 trip_k0_t1.sl.r_24
      trip_k0_t1.sl.r_25 trip_k0_t1.sl.r_26 trip_k0_t1.sl.r_27 trip_k0_t1.sl.r_28 trip_k0_t1.sl.r_29 trip_k0_t1.sl.r_3 trip_k0_t1.sl.r_30 trip_k0_t1.sl.r_31 trip_k0_t1.sl.r_32
      trip_k0_t1.sl.r_33 trip_k0_t1.sl.r_34 trip_k0_t1.sl.r_35 trip_k0_t1.sl.r_36 trip_k0_t1.sl.r_37 trip_k0_t1.sl.r_38 trip_k0_t1.sl.r_39 trip_k0_t1.sl.r_4 trip_k0_t1.sl.r_40
      trip_k0_t1.sl.r_41 trip_k0_t1.sl.r_42 trip_k0_t1.sl.r_43 trip_k0_t1.sl.r_44 trip_k0_t1.sl.r_45 trip_k0_t1.sl.r_46 trip_k0_t1.sl.r_47 trip_k0_t1.sl.r_48 trip_k0_t1.sl.r_49
      trip_k0_t1.sl.r_5 trip_k0_t1.sl.r_50 trip_k0_t1.sl.r_51 trip_k0_t1.sl.r_52 trip_k0_t1.sl.r_53 trip_k0_t1.sl.r_54 trip_k0_t1.sl.r_55 trip_k0_t1.sl.r_56 trip_k0_t1.sl.r_57
      trip_k0_t1.sl.r_58 trip_k0_t1.sl.r_59 trip_k0_t1.sl.r_6 trip_k0_t1.sl.r_60 trip_k0_t1.sl.r_61 trip_k0_t1.sl.r_62 trip_k0_t1.sl.r_63 trip_k0_t1.sl.r_64 trip_k0_t1.sl.r_7
      trip_k0_t1.sl.r_8 trip_k0_t1.sl.r_9 trip_k0_t1.sl.v1017 trip_k0_t1.sl.v1029 trip_k0_t1.sl.v1048 trip_k0_t1.sl.v1060 trip_k0_t1.sl.v1079 trip_k0_t1.sl.v1091 trip_k0_t1.sl.v1110
      trip_k0_t1.sl.v1122 trip_k0_t1.sl.v1141 trip_k0_t1.sl.v1153 trip_k0_t1.sl.v1172 trip_k0_t1.sl.v1184 trip_k0_t1.sl.v1203 trip_k0_t1.sl.v1215 trip_k0_t1.sl.v1234
      trip_k0_t1.sl.v1243 trip_k0_t1.sl.v1246 trip_k0_t1.sl.v1265 trip_k0_t1.sl.v1277 trip_k0_t1.sl.v1296 trip_k0_t1.sl.v1308 trip_k0_t1.sl.v1327 trip_k0_t1.sl.v1339
      trip_k0_t1.sl.v1358 trip_k0_t1.sl.v1370 trip_k0_t1.sl.v1389 trip_k0_t1.sl.v1401 trip_k0_t1.sl.v1420 trip_k0_t1.sl.v1432 trip_k0_t1.sl.v1451 trip_k0_t1.sl.v1463
      trip_k0_t1.sl.v1482 trip_k0_t1.sl.v1494 trip_k0_t1.sl.v1513 trip_k0_t1.sl.v1525 trip_k0_t1.sl.v1544 trip_k0_t1.sl.v1556 trip_k0_t1.sl.v1575 trip_k0_t1.sl.v1587
      trip_k0_t1.sl.v1606 trip_k0_t1.sl.v1618 trip_k0_t1.sl.v1637 trip_k0_t1.sl.v1649 trip_k0_t1.sl.v1671 trip_k0_t1.sl.v1683 trip_k0_t1.sl.v1705 trip_k0_t1.sl.v1717
      trip_k0_t1.sl.v1739 trip_k0_t1.sl.v1751 trip_k0_t1.sl.v1773 trip_k0_t1.sl.v1785 trip_k0_t1.sl.v783 trip_k0_t1.sl.v827 trip_k0_t1.sl.v839 trip_k0_t1.sl.v851 trip_k0_t1.sl.v860
      trip_k0_t1.sl.v872 trip_k0_t1.sl.v893 trip_k0_t1.sl.v905 trip_k0_t1.sl.v924 trip_k0_t1.sl.v936 trip_k0_t1.sl.v955 trip_k0_t1.sl.v967 trip_k0_t1.sl.v986 trip_k0_t1.sl.v998
    simp (decide := true) only [Nat.reduceMul, List.cons_append, ↓View.readCov_cons_toLoadRect, ↓View.readCov_skip]
    rfl

set_option maxHeartbeats 1000000 in
/-- and the scores of the next tile's first key block. -/
theorem trip_p (R : List (View.Piece (Elt F) S4x256x256 .f32)) (j : Fin 4) :
    shapeCast S256x256 (arg13.view.readCov ((trip_k0_t1 (F := F) 𝒱 c bd i arg3 harg3 arg4 harg4 arg5 harg5 arg6 harg6 arg7 harg7 arg8 harg8 arg9 harg9 arg10 harg10 arg11 harg11 arg12 harg12 arg13 harg13 arg2 c0_i32_40 v55 X4 X9 X10 k).2.2.1 f11 f12 f13 ++ R) (cP j)) shapeCasts_S1x256x256_S256x256 =
      shapeCast S256x256 (shapeCast S1x256x256 (score (View.readAt (Elt F) arg4.view (Rect.unit (s := S8192x128) (k0_off1 i k 1024#32 0#32) S256x128.size (k0_off1_inb i k 4)).toLoadRect X4)
        (View.readAt (Elt F) arg10.view (cQ (j.castLE (by decide))) X10)) shapeCasts_S256x256_S1x256x256) shapeCasts_S1x256x256_S256x256 := by
  fin_cases j
  all_goals
    dsimp only [cM, cA, cP]
    try simp only [Nat.reduceMul, Nat.mul_zero, Nat.mul_one]
    unfold trip_k0_t1
    delta trip_k0_t1.sl.HW_arg11_10 trip_k0_t1.sl.HW_arg11_11 trip_k0_t1.sl.HW_arg11_12 trip_k0_t1.sl.HW_arg11_13 trip_k0_t1.sl.HW_arg11_14 trip_k0_t1.sl.HW_arg11_15
      trip_k0_t1.sl.HW_arg11_16 trip_k0_t1.sl.HW_arg11_17 trip_k0_t1.sl.HW_arg11_18 trip_k0_t1.sl.HW_arg11_19 trip_k0_t1.sl.HW_arg11_20 trip_k0_t1.sl.HW_arg11_21
      trip_k0_t1.sl.HW_arg11_22 trip_k0_t1.sl.HW_arg11_23 trip_k0_t1.sl.HW_arg11_24 trip_k0_t1.sl.HW_arg11_25 trip_k0_t1.sl.HW_arg11_26 trip_k0_t1.sl.HW_arg11_27
      trip_k0_t1.sl.HW_arg11_28 trip_k0_t1.sl.HW_arg11_29 trip_k0_t1.sl.HW_arg11_30 trip_k0_t1.sl.HW_arg11_31 trip_k0_t1.sl.HW_arg11_8 trip_k0_t1.sl.HW_arg11_9
      trip_k0_t1.sl.HW_arg12_10 trip_k0_t1.sl.HW_arg12_11 trip_k0_t1.sl.HW_arg12_12 trip_k0_t1.sl.HW_arg12_13 trip_k0_t1.sl.HW_arg12_14 trip_k0_t1.sl.HW_arg12_15
      trip_k0_t1.sl.HW_arg12_16 trip_k0_t1.sl.HW_arg12_17 trip_k0_t1.sl.HW_arg12_18 trip_k0_t1.sl.HW_arg12_19 trip_k0_t1.sl.HW_arg12_20 trip_k0_t1.sl.HW_arg12_21
      trip_k0_t1.sl.HW_arg12_22 trip_k0_t1.sl.HW_arg12_23 trip_k0_t1.sl.HW_arg12_24 trip_k0_t1.sl.HW_arg12_25 trip_k0_t1.sl.HW_arg12_26 trip_k0_t1.sl.HW_arg12_27
      trip_k0_t1.sl.HW_arg12_28 trip_k0_t1.sl.HW_arg12_29 trip_k0_t1.sl.HW_arg12_30 trip_k0_t1.sl.HW_arg12_31 trip_k0_t1.sl.HW_arg12_8 trip_k0_t1.sl.HW_arg12_9 trip_k0_t1.sl.arg14
      trip_k0_t1.sl.r trip_k0_t1.sl.r_1 trip_k0_t1.sl.r_10 trip_k0_t1.sl.r_11 trip_k0_t1.sl.r_12 trip_k0_t1.sl.r_13 trip_k0_t1.sl.r_14 trip_k0_t1.sl.r_15 trip_k0_t1.sl.r_16
      trip_k0_t1.sl.r_17 trip_k0_t1.sl.r_18 trip_k0_t1.sl.r_19 trip_k0_t1.sl.r_2 trip_k0_t1.sl.r_20 trip_k0_t1.sl.r_21 trip_k0_t1.sl.r_22 trip_k0_t1.sl.r_23 trip_k0_t1.sl.r_24
      trip_k0_t1.sl.r_25 trip_k0_t1.sl.r_26 trip_k0_t1.sl.r_27 trip_k0_t1.sl.r_28 trip_k0_t1.sl.r_29 trip_k0_t1.sl.r_3 trip_k0_t1.sl.r_30 trip_k0_t1.sl.r_31 trip_k0_t1.sl.r_32
      trip_k0_t1.sl.r_33 trip_k0_t1.sl.r_34 trip_k0_t1.sl.r_35 trip_k0_t1.sl.r_36 trip_k0_t1.sl.r_37 trip_k0_t1.sl.r_38 trip_k0_t1.sl.r_39 trip_k0_t1.sl.r_4 trip_k0_t1.sl.r_40
      trip_k0_t1.sl.r_41 trip_k0_t1.sl.r_42 trip_k0_t1.sl.r_43 trip_k0_t1.sl.r_44 trip_k0_t1.sl.r_45 trip_k0_t1.sl.r_46 trip_k0_t1.sl.r_47 trip_k0_t1.sl.r_48 trip_k0_t1.sl.r_49
      trip_k0_t1.sl.r_5 trip_k0_t1.sl.r_50 trip_k0_t1.sl.r_51 trip_k0_t1.sl.r_52 trip_k0_t1.sl.r_53 trip_k0_t1.sl.r_54 trip_k0_t1.sl.r_55 trip_k0_t1.sl.r_56 trip_k0_t1.sl.r_57
      trip_k0_t1.sl.r_58 trip_k0_t1.sl.r_59 trip_k0_t1.sl.r_6 trip_k0_t1.sl.r_60 trip_k0_t1.sl.r_61 trip_k0_t1.sl.r_62 trip_k0_t1.sl.r_63 trip_k0_t1.sl.r_64 trip_k0_t1.sl.r_7
      trip_k0_t1.sl.r_8 trip_k0_t1.sl.r_9 trip_k0_t1.sl.v1017 trip_k0_t1.sl.v1029 trip_k0_t1.sl.v1048 trip_k0_t1.sl.v1060 trip_k0_t1.sl.v1079 trip_k0_t1.sl.v1091 trip_k0_t1.sl.v1110
      trip_k0_t1.sl.v1122 trip_k0_t1.sl.v1141 trip_k0_t1.sl.v1153 trip_k0_t1.sl.v1172 trip_k0_t1.sl.v1184 trip_k0_t1.sl.v1203 trip_k0_t1.sl.v1215 trip_k0_t1.sl.v1234
      trip_k0_t1.sl.v1243 trip_k0_t1.sl.v1246 trip_k0_t1.sl.v1265 trip_k0_t1.sl.v1277 trip_k0_t1.sl.v1296 trip_k0_t1.sl.v1308 trip_k0_t1.sl.v1327 trip_k0_t1.sl.v1339
      trip_k0_t1.sl.v1358 trip_k0_t1.sl.v1370 trip_k0_t1.sl.v1389 trip_k0_t1.sl.v1401 trip_k0_t1.sl.v1420 trip_k0_t1.sl.v1432 trip_k0_t1.sl.v1451 trip_k0_t1.sl.v1463
      trip_k0_t1.sl.v1482 trip_k0_t1.sl.v1494 trip_k0_t1.sl.v1513 trip_k0_t1.sl.v1525 trip_k0_t1.sl.v1544 trip_k0_t1.sl.v1556 trip_k0_t1.sl.v1575 trip_k0_t1.sl.v1587
      trip_k0_t1.sl.v1606 trip_k0_t1.sl.v1618 trip_k0_t1.sl.v1637 trip_k0_t1.sl.v1649 trip_k0_t1.sl.v1671 trip_k0_t1.sl.v1683 trip_k0_t1.sl.v1705 trip_k0_t1.sl.v1717
      trip_k0_t1.sl.v1739 trip_k0_t1.sl.v1751 trip_k0_t1.sl.v1773 trip_k0_t1.sl.v1785 trip_k0_t1.sl.v783 trip_k0_t1.sl.v827 trip_k0_t1.sl.v839 trip_k0_t1.sl.v851 trip_k0_t1.sl.v860
      trip_k0_t1.sl.v872 trip_k0_t1.sl.v893 trip_k0_t1.sl.v905 trip_k0_t1.sl.v924 trip_k0_t1.sl.v936 trip_k0_t1.sl.v955 trip_k0_t1.sl.v967 trip_k0_t1.sl.v986 trip_k0_t1.sl.v998
    simp (decide := true) only [Nat.reduceMul, List.cons_append, ↓View.readCov_cons_toLoadRect, ↓View.readCov_skip]
    rfl

end Cert.Attn

end
-- ==== Proof.Attn.Diag.lean ====
/- The diagonal part of a grid point: each of the eight column blocks goes through the key blocks of the diagonal tile that it sees,
   the last of them masked. -/
module

public import proofs.«01_k».proof.Proof.Attn.Trip
public import proofs.«01_k».proof.Proof.Gen.KernelIdeal.Frame

@[expose] public section

set_option maxRecDepth 16384

noncomputable section

namespace Cert.Attn

open Idealize.ShloMosaic Idealize.SL.Sem Cert.KernelIdeal Cert.KernelIdeal.Gen

variable {F : FTy → Type} [FloatOps F]
variable (c : Dev nD) (i : grid0.Coords)
  (arg3 : Memref sig .tc .vmem S1024x128 .bf16) (harg3 : arg3.IsWhole) (arg4 : Memref sig .tc .vmem S8192x128 .bf16) (harg4 : arg4.IsWhole)
  (arg5 : Memref sig .tc .vmem S8192x128 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S1024x128 .bf16) (harg8 : arg8.IsWhole)
  (arg9 : Memref sig .tc .vmem S144x8192 .bf16) (harg9 : arg9.IsWhole) (arg10 : Memref sig .tc .vmem S128x2048 .bf16) (harg10 : arg10.IsWhole)
  (arg11 : Memref sig .tc .vmem S1x2048 .f32) (harg11 : arg11.IsWhole) (arg12 : Memref sig .tc .vmem S144x2048 .f32) (harg12 : arg12.IsWhole)
  (arg13 : Memref sig .tc .vmem S4x256x256 .f32) (harg13 : arg13.IsWhole)
  (X4 : BufTy.Contents (Elt F) arg4.view.ty) (X9 : BufTy.Contents (Elt F) arg9.view.ty) (X10 : BufTy.Contents (Elt F) arg10.view.ty)

/-- The row of maxima as it is filled, -/
abbrev fillM : List (View.Piece (Elt F) S1x2048 .f32) := [⟨Rect.unit (s := S1x2048) ![0, 0] S1x2048.size inb_S1x2048_S1x2048_0_0, k0_pay308⟩]

/-- and the sums. -/
abbrev fillA : List (View.Piece (Elt F) S144x2048 .f32) := [⟨Rect.unit (s := S144x2048) ![0, 0] S144x2048.size inb_S144x2048_S144x2048_0_0, k0_pay309⟩]

/-- The stores of the first `k` trips of the loop over whole tiles. -/
abbrev loopL (P4 : List (View.Piece (Elt F) S4x256x256 .f32)) (k : ℕ) :=
  pb_k0_t1 (F := F) Variants.none c none i arg3 harg3 arg4 harg4 arg5 harg5 arg6 harg6 arg7 harg7 arg8 harg8 arg9 harg9 arg10 harg10 arg11 harg11 arg12 harg12 arg13 harg13 (BitVec.ofNat 32 (i 2).val) 0#32 (Scalar.subi (BitVec.ofNat 32 (i 2).val) 0#32) X4 X9 X10
    (arg11.view.writes (Elt F) arg11.view.junk fillM) (arg12.view.writes (Elt F) arg12.view.junk fillA) (arg13.view.writes (Elt F) arg13.view.junk P4) k

/-- The stores of the whole loop, and of the remainder loop after it, which has no trip. -/
def endL (P4 : List (View.Piece (Elt F) S4x256x256 .f32)) : List (View.Piece (Elt F) S1x2048 .f32) × List (View.Piece (Elt F) S144x2048 .f32) × List (View.Piece (Elt F) S4x256x256 .f32) :=
  let p := loopL c i arg3 harg3 arg4 harg4 arg5 harg5 arg6 harg6 arg7 harg7 arg8 harg8 arg9 harg9 arg10 harg10 arg11 harg11 arg12 harg12 arg13 harg13 X4 X9 X10 P4 (Scf.trips (k0_t1_loop i).lb (k0_t1_loop i).ub (k0_t1_loop i).st)
  let q := pb_k0_t2 (F := F) Variants.none c none i arg3 harg3 arg4 harg4 arg5 harg5 arg6 harg6 arg7 harg7 arg8 harg8 arg9 harg9 arg10 harg10 arg11 harg11 arg12 harg12 arg13 harg13 (BitVec.ofNat 32 (i 2).val) 0#32 (Scalar.subi (BitVec.ofNat 32 (i 2).val) 0#32) (k0_t2_loop i).lb X4 X9 X10
    (arg11.view.writes (Elt F) arg11.view.junk (p.1 ++ fillM)) (arg12.view.writes (Elt F) arg12.view.junk (p.2.1 ++ fillA)) (arg13.view.writes (Elt F) arg13.view.junk (p.2.2 ++ P4))
    (Scf.trips (k0_t2_loop i).lb (k0_t2_loop i).ub (k0_t2_loop i).st)
  (q.1 ++ (p.1 ++ fillM), q.2.1 ++ (p.2.1 ++ fillA), q.2.2 ++ (p.2.2 ++ P4))

/-- The scores of key block `b` of the diagonal tile with column block `j`. -/
def diagS (b : Fin 4) (j : Fin 8) : FVec F S256x256 .f32 :=
  score (View.readAt (Elt F) arg4.view (Rect.unit (s := S8192x128) (k0_off5 i (BitVec.ofNat 32 (256 * b.val))) S256x128.size (k0_off5_inb i b)).toLoadRect X4)
    (View.readAt (Elt F) arg10.view (cQ j) X10)

/-- The values of key block `b` of the diagonal tile, transposed. -/
def diagV (b : Fin 4) : Vec F S144x256 .bf16 :=
  View.readAt (Elt F) arg9.view (Rect.unit (s := S144x8192) (k0_off6 i (BitVec.ofNat 32 (256 * b.val))) S144x256.size (k0_off6_inb i b)).toLoadRect X9

/-- Scores of which a query keeps those of the keys up to it; `w` is where the block begins in its tile. -/
def masked (w : BitVec 32) (s : FVec F S256x256 .f32) : FVec F S256x256 .f32 :=
  select (cmpi .sle (addi (broadcast S256x256 w) (iota .tc S256x256 32 [0] iota_S256x256_d0_w32)) (addi (broadcast S256x256 w) (iota .tc S256x256 32 [1] iota_S256x256_d1_w32)))
    s (broadcast S256x256 (Scalar.ofBits .f32 0xFF800000#32))

/-- What the diagonal tile makes of column block `j`, whose first scores are `s0`: block `d = j mod 4` of the queries sees key blocks
    `0` to `d`. -/
def diagMA (s0 : FVec F S256x256 .f32) (j : Fin 8) (p : FVec F S1x256 .f32 × FVec F S144x256 .f32) : FVec F S1x256 .f32 × FVec F S144x256 .f32 :=
  match j.val % 4 with
  | 0 => stepMA (masked 0#32 s0) (diagV i arg9 X9 0) p
  | 1 => stepMA (masked 256#32 (diagS i arg4 arg10 X4 X10 1 j)) (diagV i arg9 X9 1) (stepMA s0 (diagV i arg9 X9 0) p)
  | 2 => stepMA (masked 512#32 (diagS i arg4 arg10 X4 X10 2 j)) (diagV i arg9 X9 2) (stepMA (diagS i arg4 arg10 X4 X10 1 j) (diagV i arg9 X9 1) (stepMA s0 (diagV i arg9 X9 0) p))
  | _ => stepMA (masked 768#32 (diagS i arg4 arg10 X4 X10 3 j)) (diagV i arg9 X9 3) (stepMA (diagS i arg4 arg10 X4 X10 2 j) (diagV i arg9 X9 2)
      (stepMA (diagS i arg4 arg10 X4 X10 1 j) (diagV i arg9 X9 1) (stepMA s0 (diagV i arg9 X9 0) p)))

set_option maxHeartbeats 1000000 in
/-- The sums at the end of a grid point that is the first of its head. -/
theorem diag_A (x0 : Vec F S1024x128 .bf16) (x1 : Vec F S8192x128 .bf16) (x2 : Vec F S8192x128 .bf16)
    (s0 : Fin 8 → FVec F S256x256 .f32) (h0 : ∀ j (h : j < 4), s0 ⟨j, by omega⟩ = shapeCast S256x256 (arg13.view.readCov (endL c i arg3 harg3 arg4 harg4 arg5 harg5 arg6 harg6 arg7 harg7 arg8 harg8 arg9 harg9 arg10 harg10 arg11 harg11 arg12 harg12 arg13 harg13 (harg4.unread x1) (arg9.view.writes (Elt F) arg9.view.junk (kernelRun0_A.sl.HS0_9 c arg5 harg5 x2)) (arg10.view.writes (Elt F) arg10.view.junk (kernelRun0_A.sl.HS1_2 c arg3 harg3 x0)) (kernelRun0_A.sl.HS4_4 c arg3 harg3 arg4 harg4 arg10 x0 x1)).2.2 (cP ⟨j, h⟩)) shapeCasts_S1x256x256_S256x256)
    (h4 : ∀ j (h : 4 ≤ j) (h' : j < 8), s0 ⟨j, h'⟩ = diagS i arg4 arg10 (harg4.unread x1) (arg10.view.writes (Elt F) arg10.view.junk (kernelRun0_A.sl.HS1_2 c arg3 harg3 x0)) 0 ⟨j, h'⟩) (j : Fin 8) :
    arg12.view.readCov (kernelRun0_A.sl.HS3_20 c i arg3 harg3 arg4 harg4 arg5 harg5 arg6 harg6 arg7 harg7 arg8 harg8 arg9 harg9 arg10 harg10 arg11 harg11 arg12 harg12 arg13 harg13 x0 x1 x2) (cA j) =
      (diagMA i arg4 arg9 arg10 (harg4.unread x1) (arg9.view.writes (Elt F) arg9.view.junk (kernelRun0_A.sl.HS0_9 c arg5 harg5 x2)) (arg10.view.writes (Elt F) arg10.view.junk (kernelRun0_A.sl.HS1_2 c arg3 harg3 x0)) (s0 j) j (arg11.view.readCov (endL c i arg3 harg3 arg4 harg4 arg5 harg5 arg6 harg6 arg7 harg7 arg8 harg8 arg9 harg9 arg10 harg10 arg11 harg11 arg12 harg12 arg13 harg13 (harg4.unread x1) (arg9.view.writes (Elt F) arg9.view.junk (kernelRun0_A.sl.HS0_9 c arg5 harg5 x2)) (arg10.view.writes (Elt F) arg10.view.junk (kernelRun0_A.sl.HS1_2 c arg3 harg3 x0)) (kernelRun0_A.sl.HS4_4 c arg3 harg3 arg4 harg4 arg10 x0 x1)).1 (cM j), arg12.view.readCov (endL c i arg3 harg3 arg4 harg4 arg5 harg5 arg6 harg6 arg7 harg7 arg8 harg8 arg9 harg9 arg10 harg10 arg11 harg11 arg12 harg12 arg13 harg13 (harg4.unread x1) (arg9.view.writes (Elt F) arg9.view.junk (kernelRun0_A.sl.HS0_9 c arg5 harg5 x2)) (arg10.view.writes (Elt F) arg10.view.junk (kernelRun0_A.sl.HS1_2 c arg3 harg3 x0)) (kernelRun0_A.sl.HS4_4 c arg3 harg3 arg4 harg4 arg10 x0 x1)).2.1 (cA j))).2 := by
  fin_cases j
  all_goals
    first
    | rw [h0 _ (by decide)]
    | rw [h4 _ (by decide)]
    dsimp only [cM, cA, cP]
    simp only [Nat.reduceMul, Nat.mul_zero, Nat.mul_one]
    delta kernelRun0_A.sl.HS2_10 kernelRun0_A.sl.HS2_11 kernelRun0_A.sl.HS2_12 kernelRun0_A.sl.HS2_13 kernelRun0_A.sl.HS2_14 kernelRun0_A.sl.HS2_15 kernelRun0_A.sl.HS2_16
      kernelRun0_A.sl.HS2_17 kernelRun0_A.sl.HS2_18 kernelRun0_A.sl.HS2_19 kernelRun0_A.sl.HS2_1_1 kernelRun0_A.sl.HS2_2 kernelRun0_A.sl.HS2_3 kernelRun0_A.sl.HS2_4
      kernelRun0_A.sl.HS2_5 kernelRun0_A.sl.HS2_6 kernelRun0_A.sl.HS2_7 kernelRun0_A.sl.HS2_8 kernelRun0_A.sl.HS2_9 kernelRun0_A.sl.HS3_10 kernelRun0_A.sl.HS3_11
      kernelRun0_A.sl.HS3_12 kernelRun0_A.sl.HS3_13 kernelRun0_A.sl.HS3_14 kernelRun0_A.sl.HS3_15 kernelRun0_A.sl.HS3_16 kernelRun0_A.sl.HS3_17 kernelRun0_A.sl.HS3_18
      kernelRun0_A.sl.HS3_19 kernelRun0_A.sl.HS3_1_1 kernelRun0_A.sl.HS3_2 kernelRun0_A.sl.HS3_20 kernelRun0_A.sl.HS3_3 kernelRun0_A.sl.HS3_4 kernelRun0_A.sl.HS3_5
      kernelRun0_A.sl.HS3_6 kernelRun0_A.sl.HS3_7 kernelRun0_A.sl.HS3_8 kernelRun0_A.sl.HS3_9 kernelRun0_A.sl.cst_416 kernelRun0_A.sl.cst_446 kernelRun0_A.sl.r kernelRun0_A.sl.r_1
      kernelRun0_A.sl.r_10 kernelRun0_A.sl.r_11 kernelRun0_A.sl.r_12 kernelRun0_A.sl.r_13 kernelRun0_A.sl.r_14 kernelRun0_A.sl.r_15 kernelRun0_A.sl.r_16 kernelRun0_A.sl.r_17
      kernelRun0_A.sl.r_18 kernelRun0_A.sl.r_19 kernelRun0_A.sl.r_2 kernelRun0_A.sl.r_20 kernelRun0_A.sl.r_21 kernelRun0_A.sl.r_22 kernelRun0_A.sl.r_23 kernelRun0_A.sl.r_24
      kernelRun0_A.sl.r_25 kernelRun0_A.sl.r_26 kernelRun0_A.sl.r_27 kernelRun0_A.sl.r_28 kernelRun0_A.sl.r_29 kernelRun0_A.sl.r_3 kernelRun0_A.sl.r_30 kernelRun0_A.sl.r_31
      kernelRun0_A.sl.r_32 kernelRun0_A.sl.r_33 kernelRun0_A.sl.r_34 kernelRun0_A.sl.r_35 kernelRun0_A.sl.r_36 kernelRun0_A.sl.r_37 kernelRun0_A.sl.r_38 kernelRun0_A.sl.r_39
      kernelRun0_A.sl.r_4 kernelRun0_A.sl.r_40 kernelRun0_A.sl.r_41 kernelRun0_A.sl.r_42 kernelRun0_A.sl.r_43 kernelRun0_A.sl.r_44 kernelRun0_A.sl.r_45 kernelRun0_A.sl.r_46
      kernelRun0_A.sl.r_47 kernelRun0_A.sl.r_48 kernelRun0_A.sl.r_5 kernelRun0_A.sl.r_6 kernelRun0_A.sl.r_7 kernelRun0_A.sl.r_8 kernelRun0_A.sl.r_9 kernelRun0_A.sl.v0
      kernelRun0_A.sl.v1 kernelRun0_A.sl.v105 kernelRun0_A.sl.v111 kernelRun0_A.sl.v113 kernelRun0_A.sl.v125 kernelRun0_A.sl.v138 kernelRun0_A.sl.v144 kernelRun0_A.sl.v146
      kernelRun0_A.sl.v158 kernelRun0_A.sl.v171 kernelRun0_A.sl.v177 kernelRun0_A.sl.v179 kernelRun0_A.sl.v191 kernelRun0_A.sl.v2 kernelRun0_A.sl.v208 kernelRun0_A.sl.v219
      kernelRun0_A.sl.v231 kernelRun0_A.sl.v248 kernelRun0_A.sl.v250 kernelRun0_A.sl.v262 kernelRun0_A.sl.v279 kernelRun0_A.sl.v281 kernelRun0_A.sl.v293 kernelRun0_A.sl.v312
      kernelRun0_A.sl.v32 kernelRun0_A.sl.v324 kernelRun0_A.sl.v336 kernelRun0_A.sl.v352 kernelRun0_A.sl.v364 kernelRun0_A.sl.v38 kernelRun0_A.sl.v383 kernelRun0_A.sl.v395
      kernelRun0_A.sl.v414 kernelRun0_A.sl.v426 kernelRun0_A.sl.v44 kernelRun0_A.sl.v448 kernelRun0_A.sl.v454 kernelRun0_A.sl.v466 kernelRun0_A.sl.v485 kernelRun0_A.sl.v497
      kernelRun0_A.sl.v50 kernelRun0_A.sl.v516 kernelRun0_A.sl.v528 kernelRun0_A.sl.v55 kernelRun0_A.sl.v556 kernelRun0_A.sl.v568 kernelRun0_A.sl.v57 kernelRun0_A.sl.v58
      kernelRun0_A.sl.v587 kernelRun0_A.sl.v59 kernelRun0_A.sl.v596 kernelRun0_A.sl.v599 kernelRun0_A.sl.v60 kernelRun0_A.sl.v621 kernelRun0_A.sl.v63 kernelRun0_A.sl.v633
      kernelRun0_A.sl.v646 kernelRun0_A.sl.v658 kernelRun0_A.sl.v671 kernelRun0_A.sl.v680 kernelRun0_A.sl.v69 kernelRun0_A.sl.v692 kernelRun0_A.sl.v714 kernelRun0_A.sl.v726
      kernelRun0_A.sl.v754 kernelRun0_A.sl.v755 kernelRun0_A.sl.v758 kernelRun0_A.sl.v759 kernelRun0_A.sl.v80 kernelRun0_A.sl.v92
    simp (decide := true) only [Nat.reduceMul, ↓View.readCov_cons_toLoadRect, ↓View.readCov_skip]
    rfl

set_option maxHeartbeats 1000000 in
/-- The sums at the end of a grid point that is not the first of its head. -/
theorem diag_B (x0 : Vec F S1024x128 .bf16) (x1 : Vec F S8192x128 .bf16) (xs0 : Vec F S144x8192 .bf16)
    (s0 : Fin 8 → FVec F S256x256 .f32) (h0 : ∀ j (h : j < 4), s0 ⟨j, by omega⟩ = shapeCast S256x256 (arg13.view.readCov (endL c i arg3 harg3 arg4 harg4 arg5 harg5 arg6 harg6 arg7 harg7 arg8 harg8 arg9 harg9 arg10 harg10 arg11 harg11 arg12 harg12 arg13 harg13 (harg4.unread x1) (harg9.unread xs0) (arg10.view.writes (Elt F) arg10.view.junk (kernelRun0_B.sl.HS1_2 c arg3 harg3 x0)) (kernelRun0_B.sl.HS4_4 c arg3 harg3 arg4 harg4 arg10 x0 x1)).2.2 (cP ⟨j, h⟩)) shapeCasts_S1x256x256_S256x256)
    (h4 : ∀ j (h : 4 ≤ j) (h' : j < 8), s0 ⟨j, h'⟩ = diagS i arg4 arg10 (harg4.unread x1) (arg10.view.writes (Elt F) arg10.view.junk (kernelRun0_B.sl.HS1_2 c arg3 harg3 x0)) 0 ⟨j, h'⟩) (j : Fin 8) :
    arg12.view.readCov (kernelRun0_B.sl.HS3_20 c i arg3 harg3 arg4 harg4 arg5 harg5 arg6 harg6 arg7 harg7 arg8 harg8 arg9 harg9 arg10 harg10 arg11 harg11 arg12 harg12 arg13 harg13 x0 x1 xs0) (cA j) =
      (diagMA i arg4 arg9 arg10 (harg4.unread x1) (harg9.unread xs0) (arg10.view.writes (Elt F) arg10.view.junk (kernelRun0_B.sl.HS1_2 c arg3 harg3 x0)) (s0 j) j (arg11.view.readCov (endL c i arg3 harg3 arg4 harg4 arg5 harg5 arg6 harg6 arg7 harg7 arg8 harg8 arg9 harg9 arg10 harg10 arg11 harg11 arg12 harg12 arg13 harg13 (harg4.unread x1) (harg9.unread xs0) (arg10.view.writes (Elt F) arg10.view.junk (kernelRun0_B.sl.HS1_2 c arg3 harg3 x0)) (kernelRun0_B.sl.HS4_4 c arg3 harg3 arg4 harg4 arg10 x0 x1)).1 (cM j), arg12.view.readCov (endL c i arg3 harg3 arg4 harg4 arg5 harg5 arg6 harg6 arg7 harg7 arg8 harg8 arg9 harg9 arg10 harg10 arg11 harg11 arg12 harg12 arg13 harg13 (harg4.unread x1) (harg9.unread xs0) (arg10.view.writes (Elt F) arg10.view.junk (kernelRun0_B.sl.HS1_2 c arg3 harg3 x0)) (kernelRun0_B.sl.HS4_4 c arg3 harg3 arg4 harg4 arg10 x0 x1)).2.1 (cA j))).2 := by
  fin_cases j
  all_goals
    first
    | rw [h0 _ (by decide)]
    | rw [h4 _ (by decide)]
    dsimp only [cM, cA, cP]
    simp only [Nat.reduceMul, Nat.mul_zero, Nat.mul_one]
    delta kernelRun0_B.sl.HS2_10 kernelRun0_B.sl.HS2_11 kernelRun0_B.sl.HS2_12 kernelRun0_B.sl.HS2_13 kernelRun0_B.sl.HS2_14 kernelRun0_B.sl.HS2_15 kernelRun0_B.sl.HS2_16
      kernelRun0_B.sl.HS2_17 kernelRun0_B.sl.HS2_18 kernelRun0_B.sl.HS2_19 kernelRun0_B.sl.HS2_1_1 kernelRun0_B.sl.HS2_2 kernelRun0_B.sl.HS2_3 kernelRun0_B.sl.HS2_4
      kernelRun0_B.sl.HS2_5 kernelRun0_B.sl.HS2_6 kernelRun0_B.sl.HS2_7 kernelRun0_B.sl.HS2_8 kernelRun0_B.sl.HS2_9 kernelRun0_B.sl.HS3_10 kernelRun0_B.sl.HS3_11
      kernelRun0_B.sl.HS3_12 kernelRun0_B.sl.HS3_13 kernelRun0_B.sl.HS3_14 kernelRun0_B.sl.HS3_15 kernelRun0_B.sl.HS3_16 kernelRun0_B.sl.HS3_17 kernelRun0_B.sl.HS3_18
      kernelRun0_B.sl.HS3_19 kernelRun0_B.sl.HS3_1_1 kernelRun0_B.sl.HS3_2 kernelRun0_B.sl.HS3_20 kernelRun0_B.sl.HS3_3 kernelRun0_B.sl.HS3_4 kernelRun0_B.sl.HS3_5
      kernelRun0_B.sl.HS3_6 kernelRun0_B.sl.HS3_7 kernelRun0_B.sl.HS3_8 kernelRun0_B.sl.HS3_9 kernelRun0_B.sl.cst_416 kernelRun0_B.sl.cst_446 kernelRun0_B.sl.r kernelRun0_B.sl.r_1
      kernelRun0_B.sl.r_10 kernelRun0_B.sl.r_11 kernelRun0_B.sl.r_12 kernelRun0_B.sl.r_13 kernelRun0_B.sl.r_14 kernelRun0_B.sl.r_15 kernelRun0_B.sl.r_16 kernelRun0_B.sl.r_17
      kernelRun0_B.sl.r_18 kernelRun0_B.sl.r_19 kernelRun0_B.sl.r_2 kernelRun0_B.sl.r_20 kernelRun0_B.sl.r_21 kernelRun0_B.sl.r_22 kernelRun0_B.sl.r_23 kernelRun0_B.sl.r_24
      kernelRun0_B.sl.r_25 kernelRun0_B.sl.r_26 kernelRun0_B.sl.r_27 kernelRun0_B.sl.r_28 kernelRun0_B.sl.r_29 kernelRun0_B.sl.r_3 kernelRun0_B.sl.r_30 kernelRun0_B.sl.r_31
      kernelRun0_B.sl.r_32 kernelRun0_B.sl.r_33 kernelRun0_B.sl.r_34 kernelRun0_B.sl.r_35 kernelRun0_B.sl.r_36 kernelRun0_B.sl.r_37 kernelRun0_B.sl.r_38 kernelRun0_B.sl.r_39
      kernelRun0_B.sl.r_4 kernelRun0_B.sl.r_40 kernelRun0_B.sl.r_41 kernelRun0_B.sl.r_42 kernelRun0_B.sl.r_43 kernelRun0_B.sl.r_44 kernelRun0_B.sl.r_45 kernelRun0_B.sl.r_46
      kernelRun0_B.sl.r_47 kernelRun0_B.sl.r_48 kernelRun0_B.sl.r_5 kernelRun0_B.sl.r_6 kernelRun0_B.sl.r_7 kernelRun0_B.sl.r_8 kernelRun0_B.sl.r_9 kernelRun0_B.sl.v0
      kernelRun0_B.sl.v1 kernelRun0_B.sl.v105 kernelRun0_B.sl.v111 kernelRun0_B.sl.v113 kernelRun0_B.sl.v125 kernelRun0_B.sl.v138 kernelRun0_B.sl.v144 kernelRun0_B.sl.v146
      kernelRun0_B.sl.v158 kernelRun0_B.sl.v171 kernelRun0_B.sl.v177 kernelRun0_B.sl.v179 kernelRun0_B.sl.v191 kernelRun0_B.sl.v2 kernelRun0_B.sl.v208 kernelRun0_B.sl.v219
      kernelRun0_B.sl.v231 kernelRun0_B.sl.v248 kernelRun0_B.sl.v250 kernelRun0_B.sl.v262 kernelRun0_B.sl.v279 kernelRun0_B.sl.v281 kernelRun0_B.sl.v293 kernelRun0_B.sl.v312
      kernelRun0_B.sl.v32 kernelRun0_B.sl.v324 kernelRun0_B.sl.v336 kernelRun0_B.sl.v352 kernelRun0_B.sl.v364 kernelRun0_B.sl.v38 kernelRun0_B.sl.v383 kernelRun0_B.sl.v395
      kernelRun0_B.sl.v414 kernelRun0_B.sl.v426 kernelRun0_B.sl.v44 kernelRun0_B.sl.v448 kernelRun0_B.sl.v454 kernelRun0_B.sl.v466 kernelRun0_B.sl.v485 kernelRun0_B.sl.v497
      kernelRun0_B.sl.v50 kernelRun0_B.sl.v516 kernelRun0_B.sl.v528 kernelRun0_B.sl.v55 kernelRun0_B.sl.v556 kernelRun0_B.sl.v568 kernelRun0_B.sl.v57 kernelRun0_B.sl.v58
      kernelRun0_B.sl.v587 kernelRun0_B.sl.v59 kernelRun0_B.sl.v596 kernelRun0_B.sl.v599 kernelRun0_B.sl.v60 kernelRun0_B.sl.v621 kernelRun0_B.sl.v63 kernelRun0_B.sl.v633
      kernelRun0_B.sl.v646 kernelRun0_B.sl.v658 kernelRun0_B.sl.v671 kernelRun0_B.sl.v680 kernelRun0_B.sl.v69 kernelRun0_B.sl.v692 kernelRun0_B.sl.v714 kernelRun0_B.sl.v726
      kernelRun0_B.sl.v754 kernelRun0_B.sl.v755 kernelRun0_B.sl.v758 kernelRun0_B.sl.v759 kernelRun0_B.sl.v80 kernelRun0_B.sl.v92
    simp (decide := true) only [Nat.reduceMul, ↓View.readCov_cons_toLoadRect, ↓View.readCov_skip]
    rfl

end Cert.Attn

end
-- ==== Proof.Attn.StepVal.lean ====
/- One step of the running softmax over the extended reals, read at an element, and what a block of 256 query
   columns holds after some number of keys. -/
module

public import proofs.«01_k».proof.Proof.Attn.Steps
public import proofs.«01_k».proof.Proof.Attn.Math
public import Idealize.ShloMosaic.PureOps.Ideal.Laws
public import Idealize.ShloMosaic.Lib.ValueIdx
public import Idealize.ShloMosaic.Lib.ValueLayout
public import Idealize.ShloMosaic.Lib.MatmulPlain

@[expose] public section

set_option maxRecDepth 16384

noncomputable section

namespace Cert.Attn

open Idealize.ShloMosaic Idealize.ShloMosaic.ValueIdx Idealize.SL.Sem Cert.KernelIdeal Cert.KernelIdeal.Gen

/-- The float word of −∞ is −∞. -/
theorem ofBits_neg_inf : Ideal.ofBits .f32 0xFF800000#32 = (⊥ : EReal) := by simp [Ideal.ofBits, Ideal.ieee]

/-- The new maximum of a column. -/
theorem mMax_apply (s : FVec Ideal S256x256 .f32) (m : FVec Ideal S1x256 .f32) (q : Fin 256) :
    mMax s m (ix2 (0 : Fin 1) q) = max (m (ix2 (0 : Fin 1) q)) ((Finset.univ : Finset (Fin 256)).fold max ⊥ fun j => s (ix2 j q)) := by
  unfold mMax
  rw [maximumf_apply, shapeCast_apply _ _ (ix2 (0 : Fin 1) q) (ix1 q) (by simp [Shape.rowMajor_val_one, Shape.rowMajor_val_two])]
  refine congrArg (max (m (ix2 (0 : Fin 1) q))) ((Ideal.multiReduction_maximumf_single s _ reduces_S256x256_S256 (.inl rfl) rfl (ix1 q)).trans ?_)
  have hf : (s ∘ (reduces_S256x256_S256).lift (ix1 q)) = fun j : Fin 256 => s (ix2 j q) :=
    funext fun k => congrArg s (by funext c; apply Fin.ext; fin_cases c <;> rfl)
  refine (congrArg (fun f => Finset.fold max _ f (Finset.univ : Finset (Fin 256))) hf).trans ?_
  exact congrArg (fun b => Finset.fold max b (fun j => s (ix2 j q)) Finset.univ) ofBits_neg_inf

/-- The same of what is stored. -/
theorem mStep_apply (s : FVec Ideal S256x256 .f32) (m : FVec Ideal S1x256 .f32) (q : Fin 256) :
    mStep s m (ix2 (0 : Fin 1) q) = max (m (ix2 (0 : Fin 1) q)) ((Finset.univ : Finset (Fin 256)).fold max ⊥ fun j => s (ix2 j q)) := by
  unfold mStep
  rw [shapeCast_self, mMax_apply]

/-- The new sums of a column. -/
theorem aStep_apply (s : FVec Ideal S256x256 .f32) (m : FVec Ideal S1x256 .f32) (vt : Vec Ideal S144x256 .bf16) (a : Vec Ideal S144x256 .f32)
    (r : Fin 144) (q : Fin 256) :
    aStep s m vt a (ix2 r q) = Ideal.exp2 (m (ix2 (0 : Fin 1) q) - mStep s m (ix2 (0 : Fin 1) q)) * a (ix2 r q)
      + (0 + ∑ j : Fin 256, vt (ix2 r j) * Ideal.exp2 (s (ix2 j q) - mStep s m (ix2 (0 : Fin 1) q))) := by
  unfold aStep mStep
  rw [shapeCast_self, shapeCast_self, addf_apply, mulf_apply, broadcastTo_1b_ab_apply]
  refine congrArg₂ (· + ·) rfl ?_
  refine (Ideal.matmul_plain_apply none _ _ _ r q).trans ?_
  refine congrArg₂ (· + ·) Ideal.ofBits_zero_f32 (Finset.sum_congr rfl fun j _ => ?_)
  refine congrArg (vt (ix2 r j) * ·) ?_
  rw [truncf_apply]
  refine congrArg (fun t => Ideal.exp2 (s (ix2 j q) - t)) ?_
  rw [broadcastTo_1b_ab_apply]

/-- A score. -/
theorem score_apply (k : Vec Ideal S256x128 .bf16) (x : Vec Ideal S128x256 .bf16) (j q : Fin 256) :
    score k x (ix2 j q) = ∑ d : Fin 128, k (ix2 j d) * x (ix2 d q) := by
  unfold score
  refine (Ideal.matmul_plain_apply none _ _ _ j q).trans ?_
  exact (congrArg (· + _) Ideal.ofBits_zero_f32).trans (zero_add _)

/-- What 256 query columns hold after `n` keys. -/
def Chunk (V : Fin 144 → ℕ → ℝ) (S : Fin 256 → ℕ → ℝ) (vis : Fin 256 → ℕ → Prop) [∀ q, DecidablePred (vis q)] (n : ℕ)
    (p : FVec Ideal S1x256 .f32 × FVec Ideal S144x256 .f32) : Prop :=
  ∀ q, Col V (S q) (vis q) n (p.1 (ix2 (0 : Fin 1) q)) fun r => p.2 (ix2 r q)

/-- A step takes 256 further keys in. -/
theorem Chunk.step {V : Fin 144 → ℕ → ℝ} {S : Fin 256 → ℕ → ℝ} {vis : Fin 256 → ℕ → Prop} [∀ q, DecidablePred (vis q)] {n : ℕ}
    {p : FVec Ideal S1x256 .f32 × FVec Ideal S144x256 .f32} (h : Chunk V S vis n p) (h0 : n = 0 → ∀ q, vis q 0)
    (s : FVec Ideal S256x256 .f32) (hs : ∀ j q, s (ix2 j q) = if vis q (n + j.val) then ((S q (n + j.val) : ℝ) : EReal) else ⊥)
    (vt : Vec Ideal S144x256 .bf16) (hv : ∀ r j, vt (ix2 r j) = ((V r (n + j.val) : ℝ) : EReal)) :
    Chunk V S vis (n + 256) (stepMA s vt p) := by
  intro q
  have := (h q).step (fun e => h0 e q) (by norm_num : 0 < 256) (fun j => s (ix2 j q)) (fun j => hs j q) (fun r j => vt (ix2 r j)) hv
    (mStep s p.1 (ix2 (0 : Fin 1) q)) (mStep_apply s p.1 q)
  unfold stepMA
  simp only [aStep_apply]
  exact this

end Cert.Attn

end
-- ==== Proof.Attn.Offs.lean ====
/- The numbers that the kernel computes with: how often its loops go round, and where their loads begin. -/
module

public import proofs.«01_k».proof.Proof.Gen.KernelIdeal.Skeleton

@[expose] public section

set_option maxRecDepth 16384

noncomputable section

namespace Cert.Attn

open Idealize.ShloMosaic Idealize.SL.Sem Cert.KernelIdeal Cert.KernelIdeal.Gen

/-- The loop over whole tiles goes round once per tile before the diagonal one, -/
theorem trips1 (i : grid0.Coords) : (k0_t1_loop i).trips = (i 2).val := by
  have h : ∀ v : Fin 8, (Scf.Loop.mk (w := 32) 0#32 (Scalar.addi 0#32 (Scalar.muli (Scalar.divsi (Scalar.subi (BitVec.ofNat 32 v.val) 0#32) 1#32) 1#32)) 1#32).trips = v.val := by
    decide +kernel
  exact h (i 2)

/-- and the one after it not at all. -/
theorem trips2 (i : grid0.Coords) : (k0_t2_loop i).trips = 0 := by
  have h : ∀ v : Fin 8, (Scf.Loop.mk (w := 32) (Scalar.addi 0#32 (Scalar.muli (Scalar.divsi (Scalar.subi (BitVec.ofNat 32 v.val) 0#32) 1#32) 1#32))
      (Scalar.addi 0#32 (Scalar.subi (BitVec.ofNat 32 v.val) 0#32)) 1#32).trips = 0 := by
    decide +kernel
  exact h (i 2)

/-- The rows of keys that a trip loads, -/
theorem off1_eq (i : grid0.Coords) (k : Fin (k0_t1_loop i).trips) (b : Fin 4) :
    k0_off1 i k 0#32 (BitVec.ofNat 32 (256 * b.val)) = ![1024 * k.val + 256 * b.val, 0] := by
  have h : ∀ (v : Fin 8) (b : Fin 4), (Scalar.indexCast (Scalar.addi (Scalar.addi (Scalar.muli (Scf.iv 0#32 1#32 v.val) 1024#32) 0#32) (BitVec.ofNat 32 (256 * b.val))) : Index).toNat = 1024 * v.val + 256 * b.val := by
    decide +kernel
  have hk : k.val < 8 := by have := k.isLt; have := trips1 i; have : (i 2).val < 8 := (i 2).isLt; omega
  have := h ⟨k.val, hk⟩ b
  unfold k0_off1
  exact congrArg (fun n : ℕ => (![n, 0] : Fin 2 → ℕ)) this

/-- those of the next tile's first block, -/
theorem off1n_eq (i : grid0.Coords) (k : Fin (k0_t1_loop i).trips) :
    k0_off1 i k 1024#32 0#32 = ![1024 * (k.val + 1), 0] := by
  have h : ∀ (v : Fin 8), (Scalar.indexCast (Scalar.addi (Scalar.addi (Scalar.muli (Scf.iv 0#32 1#32 v.val) 1024#32) 1024#32) 0#32) : Index).toNat = 1024 * (v.val + 1) := by
    decide +kernel
  have hk : k.val < 8 := by have := k.isLt; have := trips1 i; have : (i 2).val < 8 := (i 2).isLt; omega
  have := h ⟨k.val, hk⟩
  unfold k0_off1
  exact congrArg (fun n : ℕ => (![n, 0] : Fin 2 → ℕ)) this

/-- and the columns of values. -/
theorem off2_eq (i : grid0.Coords) (k : Fin (k0_t1_loop i).trips) (b : Fin 4) :
    k0_off2 i k (BitVec.ofNat 32 (256 * b.val)) = ![0, 1024 * k.val + 256 * b.val] := by
  have h : ∀ (v : Fin 8) (b : Fin 4), (Scalar.indexCast (Scalar.addi (Scalar.addi (Scalar.muli (Scf.iv 0#32 1#32 v.val) 1024#32) 0#32) (BitVec.ofNat 32 (256 * b.val))) : Index).toNat = 1024 * v.val + 256 * b.val := by
    decide +kernel
  have hk : k.val < 8 := by have := k.isLt; have := trips1 i; have : (i 2).val < 8 := (i 2).isLt; omega
  have := h ⟨k.val, hk⟩ b
  unfold k0_off2
  exact congrArg (fun n : ℕ => (![0, n] : Fin 2 → ℕ)) this

/-- The same of the diagonal tile: its rows of keys -/
theorem off5_eq (i : grid0.Coords) (b : Fin 4) : k0_off5 i (BitVec.ofNat 32 (256 * b.val)) = ![1024 * (i 2).val + 256 * b.val, 0] := by
  have h : ∀ (v : Fin 8) (b : Fin 4), (Scalar.indexCast (Scalar.addi (Scalar.addi (Scalar.muli (BitVec.ofNat 32 v.val) 1024#32) 0#32) (BitVec.ofNat 32 (256 * b.val))) : Index).toNat = 1024 * v.val + 256 * b.val := by
    decide +kernel
  unfold k0_off5
  exact congrArg (fun n : ℕ => (![n, 0] : Fin 2 → ℕ)) (h (i 2) b)

/-- and its columns of values. -/
theorem off6_eq (i : grid0.Coords) (b : Fin 4) : k0_off6 i (BitVec.ofNat 32 (256 * b.val)) = ![0, 1024 * (i 2).val + 256 * b.val] := by
  have h : ∀ (v : Fin 8) (b : Fin 4), (Scalar.indexCast (Scalar.addi (Scalar.addi (Scalar.muli (BitVec.ofNat 32 v.val) 1024#32) 0#32) (BitVec.ofNat 32 (256 * b.val))) : Index).toNat = 1024 * v.val + 256 * b.val := by
    decide +kernel
  unfold k0_off6
  exact congrArg (fun n : ℕ => (![0, n] : Fin 2 → ℕ)) (h (i 2) b)

end Cert.Attn

end
-- ==== Proof.Attn.Tile.lean ====
/- The loads of the running softmax over the extended reals: the scores of a block of keys, masked or not, and its values. -/
module

public import proofs.«01_k».proof.Proof.Attn.Diag
public import proofs.«01_k».proof.Proof.Attn.StepVal
public import proofs.«01_k».proof.Proof.Attn.Offs

@[expose] public section

set_option maxRecDepth 16384

noncomputable section

namespace Cert.Attn

open Idealize.ShloMosaic Idealize.ShloMosaic.ValueIdx Idealize.SL.Sem Cert.KernelIdeal Cert.KernelIdeal.Gen

/-- The product of key `n` with query column `q`. -/
def Sf (Kf : ℕ → Fin 128 → ℝ) (Qf : Fin 128 → Fin 2048 → ℝ) (q : Fin 2048) (n : ℕ) : ℝ := ∑ d, Kf n d * Qf d q

/-- Column `q` of block `j`. -/
def colOf (j : Fin 8) (q : Fin 256) : Fin 2048 := ⟨256 * j.val + q.val, by omega⟩

/-- A query column of tile `t` sees the keys up to its own. -/
def Vis (t : ℕ) (j : Fin 8) (q : Fin 256) (n : ℕ) : Prop := n ≤ 1024 * t + 256 * (j.val % 4) + q.val

instance (t : ℕ) (j : Fin 8) (q : Fin 256) : DecidablePred (Vis t j q) := fun n => inferInstanceAs (Decidable (n ≤ _))

variable (arg4 : Memref sig .tc .vmem S8192x128 .bf16) (arg9 : Memref sig .tc .vmem S144x8192 .bf16) (arg10 : Memref sig .tc .vmem S128x2048 .bf16)
  (X4 : BufTy.Contents (Elt Ideal) arg4.view.ty) (X9 : BufTy.Contents (Elt Ideal) arg9.view.ty) (X10 : BufTy.Contents (Elt Ideal) arg10.view.ty)
  (Kf : ℕ → Fin 128 → ℝ) (Qf : Fin 128 → Fin 2048 → ℝ) (Vf : Fin 144 → ℕ → ℝ)

/-- What is in the keys, the queries and the values. -/
structure Holds : Prop where
  k : ∀ (n : Fin 8192) (d : Fin 128), arg4.view.read (Elt Ideal) X4 (ix2 n d) = ((Kf n.val d : ℝ) : EReal)
  q : ∀ (d : Fin 128) (q : Fin 2048), arg10.view.read (Elt Ideal) X10 (ix2 d q) = ((Qf d q : ℝ) : EReal)
  v : ∀ (r : Fin 144) (n : Fin 8192), arg9.view.read (Elt Ideal) X9 (ix2 r n) = ((Vf r n.val : ℝ) : EReal)

variable {arg4 arg9 arg10 X4 X9 X10 Kf Qf Vf} (H : Holds arg4 arg9 arg10 X4 X9 X10 Kf Qf Vf)
include H

theorem Holds.score (off : Fin 2 → ℕ) (inb) (n0 : ℕ) (hoff : off = ![n0, 0]) (j : Fin 8) (a q : Fin 256) :
    score (View.readAt (Elt Ideal) arg4.view (Rect.unit (s := S8192x128) off S256x128.size inb).toLoadRect X4) (View.readAt (Elt Ideal) arg10.view (cQ j) X10) (ix2 a q)
      = ((Sf Kf Qf (colOf j q) (n0 + a.val) : ℝ) : EReal) := by
  subst hoff
  have hn : n0 + 256 ≤ 8192 := inb 0
  rw [score_apply]
  unfold Sf
  rw [coe_sum]
  refine Finset.sum_congr rfl fun d _ => ?_
  rw [EReal.coe_mul]
  refine congrArg₂ (· * ·) ?_ ?_
  · refine Eq.trans ?_ (H.k ⟨n0 + a.val, by omega⟩ d)
    refine congrArg (arg4.view.read (Elt Ideal) X4) (funext fun c => Fin.ext ?_)
    fin_cases c <;> simp [Rect.unit]
  · refine Eq.trans ?_ (H.q d (colOf j q))
    refine congrArg (arg10.view.read (Elt Ideal) X10) (funext fun c => Fin.ext ?_)
    fin_cases c <;> simp [Rect.unit, colOf]

theorem Holds.val (off : Fin 2 → ℕ) (inb) (n0 : ℕ) (hoff : off = ![0, n0]) (r : Fin 144) (a : Fin 256) :
    View.readAt (Elt Ideal) arg9.view (Rect.unit (s := S144x8192) off S144x256.size inb).toLoadRect X9 (ix2 r a) = ((Vf r (n0 + a.val) : ℝ) : EReal) := by
  subst hoff
  have hn : n0 + 256 ≤ 8192 := inb 1
  refine Eq.trans ?_ (H.v r ⟨n0 + a.val, by omega⟩)
  refine congrArg (arg9.view.read (Elt Ideal) X9) (funext fun c => Fin.ext ?_)
  fin_cases c <;> simp [Rect.unit]

omit H in
/-- A masked block of scores. -/
theorem masked_apply (b : Fin 4) (s : FVec Ideal S256x256 .f32) (a q : Fin 256) :
    masked (BitVec.ofNat 32 (256 * b.val)) s (ix2 a q) = if a.val ≤ q.val then s (ix2 a q) else ⊥ := by
  have e : masked (BitVec.ofNat 32 (256 * b.val)) s (ix2 a q)
      = if BitVec.ofBool ((BitVec.ofNat 32 (256 * b.val) + BitVec.ofNat 32 (0 * 256 + a.val)).sle (BitVec.ofNat 32 (256 * b.val) + BitVec.ofNat 32 (0 * 256 + q.val))) = 1
        then s (ix2 a q) else Ideal.ofBits .f32 0xFF800000#32 := rfl
  rw [e, ofBits_neg_inf]
  refine if_congr ?_ rfl rfl
  have hb := b.isLt; have ha := a.isLt; have hq := q.isLt
  have h1 : (BitVec.ofNat 32 (256 * b.val) + BitVec.ofNat 32 (0 * 256 + a.val)).toInt = 256 * b.val + a.val := by
    rw [← BitVec.ofNat_add, BitVec.toInt_ofNat']; simp [Int.bmod]; omega
  have h2 : (BitVec.ofNat 32 (256 * b.val) + BitVec.ofNat 32 (0 * 256 + q.val)).toInt = 256 * b.val + q.val := by
    rw [← BitVec.ofNat_add, BitVec.toInt_ofNat']; simp [Int.bmod]; omega
  rw [BitVec.sle, h1, h2]
  by_cases h : a.val ≤ q.val
  · simp [h]
  · simp [h]

end Cert.Attn

end
-- ==== Proof.Attn.Loop.lean ====
/- The loop over whole tiles: after `k` of its trips every block of query columns has taken `1024 k` keys in. -/
module

public import proofs.«01_k».proof.Proof.Attn.Tile

@[expose] public section

set_option maxRecDepth 16384

noncomputable section

namespace Cert.Attn

open Idealize.ShloMosaic Idealize.ShloMosaic.ValueIdx Idealize.SL.Sem Cert.KernelIdeal Cert.KernelIdeal.Gen

variable (c : Dev nD) (i : grid0.Coords)
  (arg3 : Memref sig .tc .vmem S1024x128 .bf16) (harg3 : arg3.IsWhole) (arg4 : Memref sig .tc .vmem S8192x128 .bf16) (harg4 : arg4.IsWhole)
  (arg5 : Memref sig .tc .vmem S8192x128 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S1024x128 .bf16) (harg8 : arg8.IsWhole)
  (arg9 : Memref sig .tc .vmem S144x8192 .bf16) (harg9 : arg9.IsWhole) (arg10 : Memref sig .tc .vmem S128x2048 .bf16) (harg10 : arg10.IsWhole)
  (arg11 : Memref sig .tc .vmem S1x2048 .f32) (harg11 : arg11.IsWhole) (arg12 : Memref sig .tc .vmem S144x2048 .f32) (harg12 : arg12.IsWhole)
  (arg13 : Memref sig .tc .vmem S4x256x256 .f32) (harg13 : arg13.IsWhole)
  (X4 : BufTy.Contents (Elt Ideal) arg4.view.ty) (X9 : BufTy.Contents (Elt Ideal) arg9.view.ty) (X10 : BufTy.Contents (Elt Ideal) arg10.view.ty)
  (Kf : ℕ → Fin 128 → ℝ) (Qf : Fin 128 → Fin 2048 → ℝ) (Vf : Fin 144 → ℕ → ℝ) (H : Holds arg4 arg9 arg10 X4 X9 X10 Kf Qf Vf)

/-- What block `j` holds after `n` keys. -/
abbrev Blk (j : Fin 8) (n : ℕ) (p : FVec Ideal S1x256 .f32 × FVec Ideal S144x256 .f32) : Prop :=
  Chunk Vf (fun q => Sf Kf Qf (colOf j q)) (Vis (i 2).val j) n p

/-- A block of keys that all its queries see. -/
theorem Blk.step {j : Fin 8} {n : ℕ} {p : FVec Ideal S1x256 .f32 × FVec Ideal S144x256 .f32} (h : Blk i Kf Qf Vf j n p)
    (hn : n + 256 ≤ 1024 * (i 2).val + 256 * (j.val % 4)) (s : FVec Ideal S256x256 .f32)
    (hs : ∀ a q, s (ix2 a q) = ((Sf Kf Qf (colOf j q) (n + a.val) : ℝ) : EReal))
    (vt : Vec Ideal S144x256 .bf16) (hv : ∀ r a, vt (ix2 r a) = ((Vf r (n + a.val) : ℝ) : EReal)) :
    Blk i Kf Qf Vf j (n + 256) (stepMA s vt p) := by
  refine Chunk.step h (fun _ q => Nat.zero_le _) s (fun a q => ?_) vt hv
  rw [hs, if_pos]
  have := a.isLt
  unfold Vis
  omega

/-- The last block, of which a query sees the keys up to it. -/
theorem Blk.last {j : Fin 8} {n : ℕ} {p : FVec Ideal S1x256 .f32 × FVec Ideal S144x256 .f32} (h : Blk i Kf Qf Vf j n p)
    (b : Fin 4) (hn : n = 1024 * (i 2).val + 256 * (j.val % 4)) (s : FVec Ideal S256x256 .f32)
    (hs : ∀ a q, s (ix2 a q) = ((Sf Kf Qf (colOf j q) (n + a.val) : ℝ) : EReal))
    (vt : Vec Ideal S144x256 .bf16) (hv : ∀ r a, vt (ix2 r a) = ((Vf r (n + a.val) : ℝ) : EReal)) :
    Blk i Kf Qf Vf j (n + 256) (stepMA (masked (BitVec.ofNat 32 (256 * b.val)) s) vt p) := by
  refine Chunk.step h (fun _ q => Nat.zero_le _) _ (fun a q => ?_) vt hv
  rw [masked_apply, hs]
  refine if_congr ?_ rfl rfl
  unfold Vis
  omega

include H in
/-- A trip takes 1024 keys in. -/
theorem Holds.trip (k : Fin (k0_t1_loop i).trips) (f11 : BufTy.Contents (Elt Ideal) arg11.view.ty) (f12 : BufTy.Contents (Elt Ideal) arg12.view.ty)
    (s0 : FVec Ideal S256x256 .f32) (j : Fin 8) (hs : ∀ a q, s0 (ix2 a q) = ((Sf Kf Qf (colOf j q) (1024 * k.val + a.val) : ℝ) : EReal))
    (h : Blk i Kf Qf Vf j (1024 * k.val) (View.readAt (Elt Ideal) arg11.view (cM j) f11, View.readAt (Elt Ideal) arg12.view (cA j) f12)) :
    Blk i Kf Qf Vf j (1024 * (k.val + 1)) (tripMA i arg4 arg9 arg10 arg11 arg12 X4 X9 X10 k f11 f12 s0 j) := by
  have hk : k.val < (i 2).val := lt_of_lt_of_eq k.isLt (trips1 i)
  have hS : ∀ (b : Fin 4) a q, tripS i arg4 arg10 X4 X10 k b j (ix2 a q) = ((Sf Kf Qf (colOf j q) (1024 * k.val + 256 * b.val + a.val) : ℝ) : EReal) :=
    fun b a q => H.score _ _ _ (off1_eq i k b) j a q
  have hV : ∀ (b : Fin 4) r a, tripV i arg9 X9 k b (ix2 r a) = ((Vf r (1024 * k.val + 256 * b.val + a.val) : ℝ) : EReal) :=
    fun b r a => H.val _ _ _ (off2_eq i k b) r a
  have e : 1024 * (k.val + 1) = 1024 * k.val + 256 + 256 + 256 + 256 := by omega
  rw [e]
  unfold tripMA
  refine Blk.step i Kf Qf Vf (Blk.step i Kf Qf Vf (Blk.step i Kf Qf Vf (Blk.step i Kf Qf Vf h (by omega) _ hs _ (hV 0)) (by omega) _ (hS 1) _ (hV 1)) (by omega) _ (hS 2) _ (hV 2)) (by omega) _ (hS 3) _ (hV 3)

include H in
/-- The loop, by induction: the blocks of columns, and the scores that are carried to the next trip. -/
theorem Holds.loop (P4 : List (View.Piece (Elt Ideal) S4x256x256 .f32))
    (hP : ∀ (j : Fin 4) a q, shapeCast S256x256 (arg13.view.readCov P4 (cP j)) shapeCasts_S1x256x256_S256x256 (ix2 a q) = ((Sf Kf Qf (colOf (j.castLE (by decide)) q) a.val : ℝ) : EReal))
    (hM : ∀ j : Fin 8, Blk i Kf Qf Vf j 0 (arg11.view.readCov (fillM (F := Ideal)) (cM j), arg12.view.readCov (fillA (F := Ideal)) (cA j)))
    (k : ℕ) (hk : k ≤ (k0_t1_loop i).trips) :
    (∀ j : Fin 8, Blk i Kf Qf Vf j (1024 * k)
      (arg11.view.readCov ((loopL c i arg3 harg3 arg4 harg4 arg5 harg5 arg6 harg6 arg7 harg7 arg8 harg8 arg9 harg9 arg10 harg10 arg11 harg11 arg12 harg12 arg13 harg13 X4 X9 X10 P4 k).1 ++ (fillM (F := Ideal))) (cM j),
       arg12.view.readCov ((loopL c i arg3 harg3 arg4 harg4 arg5 harg5 arg6 harg6 arg7 harg7 arg8 harg8 arg9 harg9 arg10 harg10 arg11 harg11 arg12 harg12 arg13 harg13 X4 X9 X10 P4 k).2.1 ++ (fillA (F := Ideal))) (cA j)))
    ∧ ∀ (j : Fin 4) a q, shapeCast S256x256 (arg13.view.readCov ((loopL c i arg3 harg3 arg4 harg4 arg5 harg5 arg6 harg6 arg7 harg7 arg8 harg8 arg9 harg9 arg10 harg10 arg11 harg11 arg12 harg12 arg13 harg13 X4 X9 X10 P4 k).2.2 ++ P4) (cP j)) shapeCasts_S1x256x256_S256x256 (ix2 a q)
        = ((Sf Kf Qf (colOf (j.castLE (by decide)) q) (1024 * k + a.val) : ℝ) : EReal) := by
  induction k with
  | zero =>
    refine ⟨hM, fun j a q => ?_⟩
    rw [Nat.mul_zero, Nat.zero_add]
    exact hP j a q
  | succ k ih =>
    obtain ⟨ih1, ih2⟩ := ih (by omega)
    have hk' : k < (k0_t1_loop i).trips := by omega
    have e := pb_k0_t1_succ (F := Ideal) Variants.none c none i arg3 harg3 arg4 harg4 arg5 harg5 arg6 harg6 arg7 harg7 arg8 harg8 arg9 harg9 arg10 harg10 arg11 harg11 arg12 harg12 arg13 harg13 (BitVec.ofNat 32 (i 2).val) 0#32 (Scalar.subi (BitVec.ofNat 32 (i 2).val) 0#32) X4 X9 X10
      (arg11.view.writes (Elt Ideal) arg11.view.junk (fillM (F := Ideal))) (arg12.view.writes (Elt Ideal) arg12.view.junk (fillA (F := Ideal))) (arg13.view.writes (Elt Ideal) arg13.view.junk P4) ⟨k, hk'⟩
    let s0 : Fin 8 → FVec Ideal S256x256 .f32 := fun j =>
      if h : j.val < 4 then shapeCast S256x256 (arg13.view.readCov ((loopL c i arg3 harg3 arg4 harg4 arg5 harg5 arg6 harg6 arg7 harg7 arg8 harg8 arg9 harg9 arg10 harg10 arg11 harg11 arg12 harg12 arg13 harg13 X4 X9 X10 P4 k).2.2 ++ P4) (cP ⟨j.val, h⟩)) shapeCasts_S1x256x256_S256x256
      else tripS i arg4 arg10 X4 X10 ⟨k, hk'⟩ 0 j
    have hs0 : ∀ j a q, s0 j (ix2 a q) = ((Sf Kf Qf (colOf j q) (1024 * k + a.val) : ℝ) : EReal) := by
      intro j a q
      by_cases h : j.val < 4
      · have : s0 j = _ := dif_pos h
        rw [this]; exact ih2 ⟨j.val, h⟩ a q
      · have : s0 j = _ := dif_neg h
        rw [this]; exact H.score _ _ _ (off1_eq i ⟨k, hk'⟩ 0) j a q
    have w11 := View.writes_append (Val := Elt Ideal) arg11.view arg11.view.junk (loopL c i arg3 harg3 arg4 harg4 arg5 harg5 arg6 harg6 arg7 harg7 arg8 harg8 arg9 harg9 arg10 harg10 arg11 harg11 arg12 harg12 arg13 harg13 X4 X9 X10 P4 k).1 (fillM (F := Ideal))
    have w12 := View.writes_append (Val := Elt Ideal) arg12.view arg12.view.junk (loopL c i arg3 harg3 arg4 harg4 arg5 harg5 arg6 harg6 arg7 harg7 arg8 harg8 arg9 harg9 arg10 harg10 arg11 harg11 arg12 harg12 arg13 harg13 X4 X9 X10 P4 k).2.1 (fillA (F := Ideal))
    have w13 := View.writes_append (Val := Elt Ideal) arg13.view arg13.view.junk (loopL c i arg3 harg3 arg4 harg4 arg5 harg5 arg6 harg6 arg7 harg7 arg8 harg8 arg9 harg9 arg10 harg10 arg11 harg11 arg12 harg12 arg13 harg13 X4 X9 X10 P4 k).2.2 P4
    simp only [← w11, ← w12, ← w13] at e
    rw [show loopL c i arg3 harg3 arg4 harg4 arg5 harg5 arg6 harg6 arg7 harg7 arg8 harg8 arg9 harg9 arg10 harg10 arg11 harg11 arg12 harg12 arg13 harg13 X4 X9 X10 P4 (k + 1) = _ from e]
    refine ⟨fun j => ?_, fun j a q => ?_⟩
    · rw [List.append_assoc, List.append_assoc]
      have hm := trip_m (F := Ideal) Variants.none c none i arg3 harg3 arg4 harg4 arg5 harg5 arg6 harg6 arg7 harg7 arg8 harg8 arg9 harg9 arg10 harg10 arg11 harg11 arg12 harg12 arg13 harg13 (BitVec.ofNat 32 (i 2).val) 0#32 (Scalar.subi (BitVec.ofNat 32 (i 2).val) 0#32) X4 X9 X10 ⟨k, hk'⟩
        (arg11.view.writes (Elt Ideal) arg11.view.junk ((loopL c i arg3 harg3 arg4 harg4 arg5 harg5 arg6 harg6 arg7 harg7 arg8 harg8 arg9 harg9 arg10 harg10 arg11 harg11 arg12 harg12 arg13 harg13 X4 X9 X10 P4 k).1 ++ (fillM (F := Ideal))))
        (arg12.view.writes (Elt Ideal) arg12.view.junk ((loopL c i arg3 harg3 arg4 harg4 arg5 harg5 arg6 harg6 arg7 harg7 arg8 harg8 arg9 harg9 arg10 harg10 arg11 harg11 arg12 harg12 arg13 harg13 X4 X9 X10 P4 k).2.1 ++ (fillA (F := Ideal))))
        (arg13.view.writes (Elt Ideal) arg13.view.junk ((loopL c i arg3 harg3 arg4 harg4 arg5 harg5 arg6 harg6 arg7 harg7 arg8 harg8 arg9 harg9 arg10 harg10 arg11 harg11 arg12 harg12 arg13 harg13 X4 X9 X10 P4 k).2.2 ++ P4))
        ((loopL c i arg3 harg3 arg4 harg4 arg5 harg5 arg6 harg6 arg7 harg7 arg8 harg8 arg9 harg9 arg10 harg10 arg11 harg11 arg12 harg12 arg13 harg13 X4 X9 X10 P4 k).1 ++ (fillM (F := Ideal))) s0 (fun j h => dif_pos h) (fun j h h' => dif_neg (by simpa using h)) j
      have ha := trip_a (F := Ideal) Variants.none c none i arg3 harg3 arg4 harg4 arg5 harg5 arg6 harg6 arg7 harg7 arg8 harg8 arg9 harg9 arg10 harg10 arg11 harg11 arg12 harg12 arg13 harg13 (BitVec.ofNat 32 (i 2).val) 0#32 (Scalar.subi (BitVec.ofNat 32 (i 2).val) 0#32) X4 X9 X10 ⟨k, hk'⟩
        (arg11.view.writes (Elt Ideal) arg11.view.junk ((loopL c i arg3 harg3 arg4 harg4 arg5 harg5 arg6 harg6 arg7 harg7 arg8 harg8 arg9 harg9 arg10 harg10 arg11 harg11 arg12 harg12 arg13 harg13 X4 X9 X10 P4 k).1 ++ (fillM (F := Ideal))))
        (arg12.view.writes (Elt Ideal) arg12.view.junk ((loopL c i arg3 harg3 arg4 harg4 arg5 harg5 arg6 harg6 arg7 harg7 arg8 harg8 arg9 harg9 arg10 harg10 arg11 harg11 arg12 harg12 arg13 harg13 X4 X9 X10 P4 k).2.1 ++ (fillA (F := Ideal))))
        (arg13.view.writes (Elt Ideal) arg13.view.junk ((loopL c i arg3 harg3 arg4 harg4 arg5 harg5 arg6 harg6 arg7 harg7 arg8 harg8 arg9 harg9 arg10 harg10 arg11 harg11 arg12 harg12 arg13 harg13 X4 X9 X10 P4 k).2.2 ++ P4))
        ((loopL c i arg3 harg3 arg4 harg4 arg5 harg5 arg6 harg6 arg7 harg7 arg8 harg8 arg9 harg9 arg10 harg10 arg11 harg11 arg12 harg12 arg13 harg13 X4 X9 X10 P4 k).2.1 ++ (fillA (F := Ideal))) s0 (fun j h => dif_pos h) (fun j h h' => dif_neg (by simpa using h)) j
      have ht := H.trip i arg4 arg9 arg10 arg11 arg12 X4 X9 X10 Kf Qf Vf ⟨k, hk'⟩ _ _ (s0 j) j (hs0 j) (ih1 j)
      refine Eq.mp (congrArg (Blk i Kf Qf Vf j (1024 * (k + 1))) ?_) ht
      exact Prod.ext hm.symm ha.symm
    · rw [List.append_assoc]
      have hp := trip_p (F := Ideal) Variants.none c none i arg3 harg3 arg4 harg4 arg5 harg5 arg6 harg6 arg7 harg7 arg8 harg8 arg9 harg9 arg10 harg10 arg11 harg11 arg12 harg12 arg13 harg13 (BitVec.ofNat 32 (i 2).val) 0#32 (Scalar.subi (BitVec.ofNat 32 (i 2).val) 0#32) X4 X9 X10 ⟨k, hk'⟩
        (arg11.view.writes (Elt Ideal) arg11.view.junk ((loopL c i arg3 harg3 arg4 harg4 arg5 harg5 arg6 harg6 arg7 harg7 arg8 harg8 arg9 harg9 arg10 harg10 arg11 harg11 arg12 harg12 arg13 harg13 X4 X9 X10 P4 k).1 ++ (fillM (F := Ideal))))
        (arg12.view.writes (Elt Ideal) arg12.view.junk ((loopL c i arg3 harg3 arg4 harg4 arg5 harg5 arg6 harg6 arg7 harg7 arg8 harg8 arg9 harg9 arg10 harg10 arg11 harg11 arg12 harg12 arg13 harg13 X4 X9 X10 P4 k).2.1 ++ (fillA (F := Ideal))))
        (arg13.view.writes (Elt Ideal) arg13.view.junk ((loopL c i arg3 harg3 arg4 harg4 arg5 harg5 arg6 harg6 arg7 harg7 arg8 harg8 arg9 harg9 arg10 harg10 arg11 harg11 arg12 harg12 arg13 harg13 X4 X9 X10 P4 k).2.2 ++ P4))
        ((loopL c i arg3 harg3 arg4 harg4 arg5 harg5 arg6 harg6 arg7 harg7 arg8 harg8 arg9 harg9 arg10 harg10 arg11 harg11 arg12 harg12 arg13 harg13 X4 X9 X10 P4 k).2.2 ++ P4) j
      refine (congrFun hp (ix2 a q)).trans ?_
      rw [shapeCast_shapeCast]
      exact H.score _ _ _ (off1n_eq i ⟨k, hk'⟩) _ a q

include H in
/-- The diagonal tile: block `d` of its queries takes key blocks `0` to `d` in. -/
theorem Holds.diag (s0 : FVec Ideal S256x256 .f32) (j : Fin 8) (hs : ∀ a q, s0 (ix2 a q) = ((Sf Kf Qf (colOf j q) (1024 * (i 2).val + a.val) : ℝ) : EReal))
    (p : FVec Ideal S1x256 .f32 × FVec Ideal S144x256 .f32) (h : Blk i Kf Qf Vf j (1024 * (i 2).val) p) :
    Blk i Kf Qf Vf j (1024 * (i 2).val + 256 * (j.val % 4) + 256) (diagMA i arg4 arg9 arg10 X4 X9 X10 s0 j p) := by
  have hS : ∀ (b : Fin 4) a q, diagS i arg4 arg10 X4 X10 b j (ix2 a q) = ((Sf Kf Qf (colOf j q) (1024 * (i 2).val + 256 * b.val + a.val) : ℝ) : EReal) :=
    fun b a q => H.score _ _ _ (off5_eq i b) j a q
  have hV : ∀ (b : Fin 4) r a, diagV i arg9 X9 b (ix2 r a) = ((Vf r (1024 * (i 2).val + 256 * b.val + a.val) : ℝ) : EReal) :=
    fun b r a => H.val _ _ _ (off6_eq i b) r a
  have h4 : j.val % 4 < 4 := Nat.mod_lt _ (by decide)
  unfold diagMA
  generalize hd : j.val % 4 = d at h4 ⊢
  match d, h4 with
  | 0, _ => exact Blk.last i Kf Qf Vf h 0 (by omega) _ hs _ (hV 0)
  | 1, _ => exact Blk.last i Kf Qf Vf (Blk.step i Kf Qf Vf h (by omega) _ hs _ (hV 0)) 1 (by omega) _ (hS 1) _ (hV 1)
  | 2, _ => exact Blk.last i Kf Qf Vf (Blk.step i Kf Qf Vf (Blk.step i Kf Qf Vf h (by omega) _ hs _ (hV 0)) (by omega) _ (hS 1) _ (hV 1)) 2 (by omega) _ (hS 2) _ (hV 2)
  | 3, _ => exact Blk.last i Kf Qf Vf (Blk.step i Kf Qf Vf (Blk.step i Kf Qf Vf (Blk.step i Kf Qf Vf h (by omega) _ hs _ (hV 0)) (by omega) _ (hS 1) _ (hV 1)) (by omega) _ (hS 2) _ (hV 2)) 3 (by omega) _ (hS 3) _ (hV 3)

/-- What is there at the end of the loops. -/
theorem endL_eq (P4 : List (View.Piece (Elt Ideal) S4x256x256 .f32)) :
    endL c i arg3 harg3 arg4 harg4 arg5 harg5 arg6 harg6 arg7 harg7 arg8 harg8 arg9 harg9 arg10 harg10 arg11 harg11 arg12 harg12 arg13 harg13 X4 X9 X10 P4 =
      ((loopL c i arg3 harg3 arg4 harg4 arg5 harg5 arg6 harg6 arg7 harg7 arg8 harg8 arg9 harg9 arg10 harg10 arg11 harg11 arg12 harg12 arg13 harg13 X4 X9 X10 P4 (i 2).val).1 ++ (fillM (F := Ideal)),
       (loopL c i arg3 harg3 arg4 harg4 arg5 harg5 arg6 harg6 arg7 harg7 arg8 harg8 arg9 harg9 arg10 harg10 arg11 harg11 arg12 harg12 arg13 harg13 X4 X9 X10 P4 (i 2).val).2.1 ++ (fillA (F := Ideal)),
       (loopL c i arg3 harg3 arg4 harg4 arg5 harg5 arg6 harg6 arg7 harg7 arg8 harg8 arg9 harg9 arg10 harg10 arg11 harg11 arg12 harg12 arg13 harg13 X4 X9 X10 P4 (i 2).val).2.2 ++ P4) := by
  have t1 : Scf.trips (k0_t1_loop i).lb (k0_t1_loop i).ub (k0_t1_loop i).st = (i 2).val := trips1 i
  have t2 : Scf.trips (k0_t2_loop i).lb (k0_t2_loop i).ub (k0_t2_loop i).st = 0 := trips2 i
  unfold endL
  rw [t1, t2]
  rfl

include H in
/-- **The sums at the end of a grid point.** -/
theorem Holds.final (P4 : List (View.Piece (Elt Ideal) S4x256x256 .f32))
    (hP : ∀ (j : Fin 4) a q, shapeCast S256x256 (arg13.view.readCov P4 (cP j)) shapeCasts_S1x256x256_S256x256 (ix2 a q) = ((Sf Kf Qf (colOf (j.castLE (by decide)) q) a.val : ℝ) : EReal))
    (hM : ∀ j : Fin 8, Blk i Kf Qf Vf j 0 (arg11.view.readCov (fillM (F := Ideal)) (cM j), arg12.view.readCov (fillA (F := Ideal)) (cA j))) :
    ∃ s0 : Fin 8 → FVec Ideal S256x256 .f32,
      (∀ j (h : j < 4), s0 ⟨j, by omega⟩ = shapeCast S256x256 (arg13.view.readCov (endL c i arg3 harg3 arg4 harg4 arg5 harg5 arg6 harg6 arg7 harg7 arg8 harg8 arg9 harg9 arg10 harg10 arg11 harg11 arg12 harg12 arg13 harg13 X4 X9 X10 P4).2.2 (cP ⟨j, h⟩)) shapeCasts_S1x256x256_S256x256) ∧
      (∀ j (h : 4 ≤ j) (h' : j < 8), s0 ⟨j, h'⟩ = diagS i arg4 arg10 X4 X10 0 ⟨j, h'⟩) ∧
      ∀ j, Blk i Kf Qf Vf j (1024 * (i 2).val + 256 * (j.val % 4) + 256) (diagMA i arg4 arg9 arg10 X4 X9 X10 (s0 j) j
        (arg11.view.readCov (endL c i arg3 harg3 arg4 harg4 arg5 harg5 arg6 harg6 arg7 harg7 arg8 harg8 arg9 harg9 arg10 harg10 arg11 harg11 arg12 harg12 arg13 harg13 X4 X9 X10 P4).1 (cM j),
         arg12.view.readCov (endL c i arg3 harg3 arg4 harg4 arg5 harg5 arg6 harg6 arg7 harg7 arg8 harg8 arg9 harg9 arg10 harg10 arg11 harg11 arg12 harg12 arg13 harg13 X4 X9 X10 P4).2.1 (cA j))) := by
  rw [endL_eq]
  obtain ⟨l1, l2⟩ := H.loop c i arg3 harg3 arg4 harg4 arg5 harg5 arg6 harg6 arg7 harg7 arg8 harg8 arg9 harg9 arg10 harg10 arg11 harg11 arg12 harg12 arg13 harg13 X4 X9 X10 Kf Qf Vf P4 hP hM (i 2).val (le_of_eq (trips1 i).symm)
  refine ⟨fun j => if h : j.val < 4 then shapeCast S256x256 (arg13.view.readCov ((loopL c i arg3 harg3 arg4 harg4 arg5 harg5 arg6 harg6 arg7 harg7 arg8 harg8 arg9 harg9 arg10 harg10 arg11 harg11 arg12 harg12 arg13 harg13 X4 X9 X10 P4 (i 2).val).2.2 ++ P4) (cP ⟨j.val, h⟩)) shapeCasts_S1x256x256_S256x256
      else diagS i arg4 arg10 X4 X10 0 j, fun j h => dif_pos h, fun j h h' => dif_neg (by simpa using h), fun j => ?_⟩
  refine H.diag i arg4 arg9 arg10 X4 X9 X10 Kf Qf Vf _ j (fun a q => ?_) _ (l1 j)
  beta_reduce
  by_cases h : j.val < 4
  · rw [dif_pos h]; exact l2 ⟨j.val, h⟩ a q
  · rw [dif_neg h]; exact H.score _ _ _ (off5_eq i 0) j a q

end Cert.Attn

end
-- ==== Proof.Attn.Fill.lean ====
/- What is in the scratch buffers before the loops: the transposed queries, once with each half of the features; the transposed
   values with rows of ones under them; the scores of the first keys; and the fills of the maxima and of the sums. -/
module

public import proofs.«01_k».proof.Proof.Attn.Loop
public import Idealize.ShloMosaic.Lib.WholeRead

@[expose] public section

set_option maxRecDepth 16384

noncomputable section

namespace Cert.Attn

open Idealize.ShloMosaic Idealize.ShloMosaic.ValueIdx Idealize.SL.Sem Cert.KernelIdeal Cert.KernelIdeal.Gen

variable (c : Dev nD) (i : grid0.Coords)
  (arg3 : Memref sig .tc .vmem S1024x128 .bf16) (harg3 : arg3.IsWhole) (arg4 : Memref sig .tc .vmem S8192x128 .bf16) (harg4 : arg4.IsWhole)
  (arg5 : Memref sig .tc .vmem S8192x128 .bf16) (harg5 : arg5.IsWhole)
  (arg9 : Memref sig .tc .vmem S144x8192 .bf16) (harg9 : arg9.IsWhole) (arg10 : Memref sig .tc .vmem S128x2048 .bf16) (harg10 : arg10.IsWhole)
  (arg11 : Memref sig .tc .vmem S1x2048 .f32) (arg12 : Memref sig .tc .vmem S144x2048 .f32) (arg13 : Memref sig .tc .vmem S4x256x256 .f32)
  (x0 : Vec Ideal S1024x128 .bf16) (x1 : Vec Ideal S8192x128 .bf16) (x2 : Vec Ideal S8192x128 .bf16)
  (Qr Kf Vr : ℕ → Fin 128 → ℝ)

/-- The query columns: the first 1024 with the first half of the features, the others with the second. -/
def Qcol (d : Fin 128) (q : Fin 2048) : ℝ :=
  if q.val < 1024 then (if d.val < 64 then Qr q.val d else 0) else (if 64 ≤ d.val then Qr (q.val - 1024) d else 0)

/-- The rows of values, and rows of ones after them. -/
def Vrow (r : Fin 144) (n : ℕ) : ℝ := if h : r.val < 128 then Vr n ⟨r.val, h⟩ else 1

theorem slt64 : ∀ d : Fin 128, (IntOp.cmpi .slt (BitVec.ofNat 32 (0 * 128 + d.val)) 64#32 = 1) ↔ d.val < 64 := by decide +kernel
theorem sge64 : ∀ d : Fin 128, (IntOp.cmpi .sge (BitVec.ofNat 32 (0 * 128 + d.val)) 64#32 = 1) ↔ 64 ≤ d.val := by decide +kernel

/-- The queries with the first half of the features, -/
theorem pay306_apply (x : Vec Ideal S1024x128 .bf16) (hx : ∀ (q : Fin 1024) d, x (ix2 q d) = ((Qr q.val d : ℝ) : EReal)) (d : Fin 128) (q : Fin 1024) :
    k0_pay306 x (ix2 d q) = ((if d.val < 64 then Qr q.val d else 0 : ℝ) : EReal) := by
  unfold k0_pay306 k0_pay305
  dsimp only
  rw [shapeCast_self, truncf_apply, select_apply]
  have e : ∀ b : Ideal .f32, Scalar.select (cmpi .slt (iota .tc S128x1024 32 [0] iota_S128x1024_d0_w32) (broadcast S128x1024 64#32) (ix2 d q)) b (broadcast S128x1024 (Scalar.ofBits (F := Ideal) .f32 0#32) (ix2 d q))
      = if d.val < 64 then b else Ideal.ofBits .f32 0x00000000#32 := fun b => if_congr (slt64 d) rfl rfl
  rw [e, Ideal.ofBits_zero_f32, transpose_apply _ _ _ (ix2 d q) (ix2 q d) (by intro b; fin_cases b <;> rfl), extf_apply, hx]
  split_ifs <;> rfl

/-- and with the second. -/
theorem pay307_apply (x : Vec Ideal S1024x128 .bf16) (hx : ∀ (q : Fin 1024) d, x (ix2 q d) = ((Qr q.val d : ℝ) : EReal)) (d : Fin 128) (q : Fin 1024) :
    k0_pay307 x (ix2 d q) = ((if 64 ≤ d.val then Qr q.val d else 0 : ℝ) : EReal) := by
  unfold k0_pay307 k0_pay305
  dsimp only
  rw [shapeCast_self, truncf_apply, select_apply]
  have e : ∀ b : Ideal .f32, Scalar.select (cmpi .sge (iota .tc S128x1024 32 [0] iota_S128x1024_d0_w32) (broadcast S128x1024 64#32) (ix2 d q)) b (broadcast S128x1024 (Scalar.ofBits (F := Ideal) .f32 0#32) (ix2 d q))
      = if 64 ≤ d.val then b else Ideal.ofBits .f32 0x00000000#32 := fun b => if_congr (sge64 d) rfl rfl
  rw [e, Ideal.ofBits_zero_f32, transpose_apply _ _ _ (ix2 d q) (ix2 q d) (by intro b; fin_cases b <;> rfl), extf_apply, hx]
  split_ifs <;> rfl

theorem load3 (hx : ∀ (q : Fin 1024) d, x0 (ix2 q d) = ((Qr q.val d : ℝ) : EReal)) (q : Fin 1024) (d : Fin 128) :
    View.readAt (Elt Ideal) arg3.view (Rect.unit (s := S1024x128) ![0, 0] S1024x128.size inb_S1024x128_S1024x128_0_0).toLoadRect (harg3.unread x0) (ix2 q d) = ((Qr q.val d : ℝ) : EReal) := by
  rw [Memref.IsWhole.readAt_unread]
  refine Eq.trans (congrArg x0 (funext fun c => Fin.ext ?_)) (hx q d)
  fin_cases c <;> simp [Rect.unit]

/-- The query columns in their buffer. -/
theorem Q_val (hx : ∀ (q : Fin 1024) d, x0 (ix2 q d) = ((Qr q.val d : ℝ) : EReal)) (d : Fin 128) (q : Fin 2048) :
    View.canon (Val := Elt Ideal) (kernelRun0_A.sl.HS1_2 c arg3 harg3 x0) (ix2 d q) = ((Qcol Qr d q : ℝ) : EReal) := by
  unfold kernelRun0_A.sl.HS1_2 Qcol
  by_cases h : q.val < 1024
  · rw [if_pos h, View.canon_cons_of_not_mem]
    · have e : (ix2 d q : S128x2048.Idx) = (Rect.unit (s := S128x2048) ![0, 0] S128x1024.size inb_S128x2048_S128x1024_0_0).emb (ix2 d (⟨q.val, h⟩ : Fin 1024)) := by
        funext c; apply Fin.ext; fin_cases c
        · show d.val = 0 + 1 * d.val; omega
        · show q.val = 0 + 1 * q.val; omega
      rw [e, View.canon_cons_emb]
      exact pay306_apply Qr _ (load3 arg3 harg3 x0 Qr hx) d ⟨q.val, h⟩
    · intro hm
      have h1 : 1024 ≤ q.val := ((Rect.mem_set_unit (inb := inb_S128x2048_S128x1024_0_1024)).mp hm 1).1
      omega
  · rw [if_neg h]
    have e : (ix2 d q : S128x2048.Idx) = (Rect.unit (s := S128x2048) ![0, 1024] S128x1024.size inb_S128x2048_S128x1024_0_1024).emb (ix2 d (⟨q.val - 1024, by omega⟩ : Fin 1024)) := by
      funext c; apply Fin.ext; fin_cases c
      · show d.val = 0 + 1 * d.val; omega
      · show q.val = 1024 + 1 * (q.val - 1024); omega
    rw [e, View.canon_cons_emb]
    exact pay307_apply Qr _ (load3 arg3 harg3 x0 Qr hx) d ⟨q.val - 1024, by omega⟩

/-- A piece of the values, transposed. -/
theorem payV_apply (x : Vec Ideal S1024x128 .bf16) (d : Fin 128) (q : Fin 1024) : k0_pay2 x (ix2 d q) = x (ix2 q d) := by
  unfold k0_pay2
  dsimp only
  rw [shapeCast_self, truncf_apply, transpose_apply _ _ _ (ix2 d q) (ix2 q d) (by intro b; fin_cases b <;> rfl), extf_apply]

/-- The place of columns `1024 b` and on. -/
abbrev cV (b : Fin 8) : Rect S144x8192 := Rect.unit (s := S144x8192) ![0, 1024 * b.val] S128x1024.size (fun a => by fin_cases a <;> simp <;> omega)

theorem load5_inb (b : Fin 8) (a : Fin 2) : (![1024 * b.val, 0] : Fin 2 → ℕ) a + S1024x128.size a ≤ S8192x128.size a := by fin_cases a <;> simp <;> omega

theorem V_read (b : Fin 8) : arg9.view.readCov (kernelRun0_A.sl.HS0_9 (F := Ideal) c arg5 harg5 x2) (cV b).toLoadRect
    = k0_pay2 (View.readAt (Elt Ideal) arg5.view (Rect.unit (s := S8192x128) ![1024 * b.val, 0] S1024x128.size (load5_inb b)).toLoadRect (harg5.unread x2)) := by
  fin_cases b
  all_goals
    dsimp only [cV]
    simp only [Nat.reduceMul, Nat.mul_zero, Nat.mul_one]
    unfold kernelRun0_A.sl.HS0_9
    simp (decide := true) only [Nat.reduceMul, ↓View.readCov_cons_toLoadRect, ↓View.readCov_skip] <;> rfl

/-- The values in their buffer. -/
theorem V_val (hx : ∀ (n : Fin 8192) d, x2 (ix2 n d) = ((Vr n.val d : ℝ) : EReal)) (r : Fin 144) (n : Fin 8192) :
    View.canon (Val := Elt Ideal) (kernelRun0_A.sl.HS0_9 c arg5 harg5 x2) (ix2 r n) = ((Vrow Vr r n.val : ℝ) : EReal) := by
  unfold Vrow
  by_cases h : r.val < 128
  · rw [dif_pos h]
    have hb : n.val / 1024 < 8 := by omega
    have e := congrFun (View.readCov_eq_canon' (Val := Elt Ideal) scM0_0.view (kernelRun0_A.sl.HS0_9 (F := Ideal) c arg5 harg5 x2) (cV ⟨n.val / 1024, hb⟩).toLoadRect)
      (ix2 (⟨r.val, h⟩ : Fin 128) (⟨n.val % 1024, Nat.mod_lt _ (by decide)⟩ : Fin 1024))
    have ei : (cV ⟨n.val / 1024, hb⟩).toLoadRect.idx (ix2 (⟨r.val, h⟩ : Fin 128) (⟨n.val % 1024, Nat.mod_lt _ (by decide)⟩ : Fin 1024)) = ix2 r n := by
      funext c; apply Fin.ext; fin_cases c
      · show 0 + 1 * r.val = r.val; omega
      · show 1024 * (n.val / 1024) + 1 * (n.val % 1024) = n.val; omega
    rw [ei] at e
    rw [← e, V_read, payV_apply, Memref.IsWhole.readAt_unread]
    refine Eq.trans (congrArg x2 (funext fun c => Fin.ext ?_)) (hx n ⟨r.val, h⟩)
    fin_cases c
    · show 1024 * (n.val / 1024) + 1 * (n.val % 1024) = n.val; omega
    · show 0 + 1 * r.val = r.val; omega
  · rw [dif_neg h]
    unfold kernelRun0_A.sl.HS0_9
    have e : (ix2 r n : S144x8192.Idx) = (Rect.unit (s := S144x8192) ![128, 0] S16x8192.size inb_S144x8192_S16x8192_128_0).emb (ix2 (⟨r.val - 128, by omega⟩ : Fin 16) n) := by
      funext c; apply Fin.ext; fin_cases c
      · show r.val = 128 + 1 * (r.val - 128); omega
      · show n.val = 0 + 1 * n.val; omega
    rw [e, View.canon_cons_emb]
    unfold k0_pay304
    rw [shapeCast_self]
    have : Ideal.ofBits .bf16 0x3F80#16 = ((1 : ℝ) : EReal) := by simp [Ideal.ofBits, Ideal.ieee]; rw [← EReal.coe_mul]; norm_num
    exact this

/-- Before the loops the blocks have taken no key in. -/
theorem fill_blk (Qf : Fin 128 → Fin 2048 → ℝ) (Vf : Fin 144 → ℕ → ℝ) (j : Fin 8) :
    Blk i Kf Qf Vf j 0 (arg11.view.readCov (fillM (F := Ideal)) (cM j), arg12.view.readCov (fillA (F := Ideal)) (cA j)) := by
  intro q
  refine Or.inl ⟨rfl, ?_, fun r => ?_⟩
  · have h : ∀ y, k0_pay308 (F := Ideal) y = (⊥ : EReal) := fun y => by
      unfold k0_pay308; rw [shapeCast_self]; exact ofBits_neg_inf
    exact (congrFun (View.readCov_fill (Val := Elt Ideal) arg11.view _ _ [] _ (by intro a; fin_cases a <;> rfl)) _).trans (h _)
  · have h : ∀ y, k0_pay309 (F := Ideal) y = (0 : EReal) := fun y => by
      unfold k0_pay309; rw [shapeCast_self]; exact Ideal.ofBits_zero_f32
    exact (congrFun (View.readCov_fill (Val := Elt Ideal) arg12.view _ _ [] _ (by intro a; fin_cases a <;> rfl)) _).trans (h _)

/-- The scores of the first keys, in their buffer. -/
theorem P_read (j : Fin 4) : shapeCast S256x256 (arg13.view.readCov (kernelRun0_A.sl.HS4_4 (F := Ideal) c arg3 harg3 arg4 harg4 arg10 x0 x1) (cP j)) shapeCasts_S1x256x256_S256x256
    = score (View.readAt (Elt Ideal) arg4.view (Rect.unit (s := S8192x128) ![0, 0] S256x128.size inb_S8192x128_S256x128_0_0).toLoadRect (harg4.unread x1))
        (arg10.view.readCov (kernelRun0_A.sl.HS1_2 c arg3 harg3 x0) (cQ (j.castLE (by decide)))) := by
  fin_cases j
  all_goals
    dsimp only [cP]
    unfold kernelRun0_A.sl.HS4_4
    simp (decide := true) only [Nat.reduceMul, ↓View.readCov_cons_toLoadRect, ↓View.readCov_skip]
    exact shapeCast_shapeCast _ _ _

end Cert.Attn

end
-- ==== Proof.Attn.Tail.lean ====
/- The end of a grid point: the two quotients, their difference, its root mean square over the features and the two scales,
   over the extended reals. -/
module

public import proofs.«01_k».proof.Proof.Gen.KernelIdeal.Skeleton
public import Idealize.ShloMosaic.PureOps.Ideal.Laws
public import Idealize.ShloMosaic.Lib.ValueIdx
public import Idealize.ShloMosaic.Lib.ValueLayout

@[expose] public section

set_option maxRecDepth 16384

noncomputable section

namespace Cert.Attn

open Idealize.ShloMosaic Idealize.ShloMosaic.ValueIdx Idealize.SL.Sem Cert.KernelIdeal Cert.KernelIdeal.Gen

/-- The weight of the second softmax, from the four vectors. -/
def lamE (l : Fin 4 → Fin 64 → EReal) : EReal :=
  Ideal.exp (∑ d, l 0 d * l 1 d) - Ideal.exp (∑ d, l 2 d * l 3 d) + Ideal.ofBits .f32 0x3EB60549#32

/-- A row over the root of its mean square, times its scale and the constant one. -/
def tailE (d w : Fin 128 → EReal) (r : Fin 128) : EReal :=
  d r * Ideal.rsqrt (Ideal.div (∑ e, d e * d e) (Ideal.ofBits .f32 0x43000000#32) + Ideal.ofBits .f32 0x358637BD#32) * w r * Ideal.ofBits .f32 0x3F24FD5C#32

/-- The weight, as the kernel has it. -/
theorem lam_apply (l : Vec Ideal S4x64 .f32) (z : S1x1.Idx) : addf (k0_pay422 l) (k0_pay423 (F := Ideal)) z = lamE fun a d => l (ix2 a d) := by
  have hz : z = ix2 (0 : Fin 1) (0 : Fin 1) := by funext c; apply Fin.ext; fin_cases c <;> exact Nat.lt_one_iff.mp (z _).isLt
  have hr : ∀ (a b : FVec Ideal S1x64 .f32), multiReduction .add [1] S1 (mulf a b) 0x00000000#32 reduces_S1x64_S1 (.inl rfl) rfl (ix1 (0 : Fin 1))
      = ∑ d : Fin 64, a (ix2 (0 : Fin 1) d) * b (ix2 (0 : Fin 1) d) := by
    intro a b
    refine (Ideal.multiReduction_add_single (mulf a b) _ reduces_S1x64_S1 (.inl rfl) rfl (ix1 (0 : Fin 1))).trans ?_
    refine Finset.sum_congr rfl fun d _ => ?_
    have e : (reduces_S1x64_S1).lift (ix1 (0 : Fin 1)) d = ix2 (0 : Fin 1) (⟨d.val, d.isLt⟩ : Fin 64) := by
      funext c; apply Fin.ext; fin_cases c <;> rfl
    rw [e]; rfl
  have hs : ∀ (a : Fin 4) (h) (d : Fin 64), extractStridedSlice S1x64 ![a.val, 0] l h (ix2 (0 : Fin 1) d) = l (ix2 a d) := by
    intro a h d
    refine congrArg l (funext fun c => Fin.ext ?_)
    fin_cases c <;> simp
  subst hz
  unfold k0_pay422 k0_pay423 lamE
  dsimp only
  rw [addf_apply, subf_apply]
  refine congrArg₂ (· + ·) (congrArg₂ (· - ·) (congrArg Ideal.exp ?_) (congrArg Ideal.exp ?_)) rfl
  · rw [shapeCast_apply _ _ (ix2 (0 : Fin 1) (0 : Fin 1)) (ix1 (0 : Fin 1)) (by simp [Shape.rowMajor_val_one, Shape.rowMajor_val_two])]
    refine (hr _ _).trans (Finset.sum_congr rfl fun d _ => congrArg₂ (· * ·) (hs 0 _ d) (hs 1 _ d))
  · rw [shapeCast_apply _ _ (ix2 (0 : Fin 1) (0 : Fin 1)) (ix1 (0 : Fin 1)) (by simp [Shape.rowMajor_val_one, Shape.rowMajor_val_two])]
    refine (hr _ _).trans (Finset.sum_congr rfl fun d _ => congrArg₂ (· * ·) (hs 2 _ d) (hs 3 _ d))

/-- The difference of the quotients, as the kernel has it. -/
def diffK (l : Vec Ideal S4x64 .f32) (a1 : Vec Ideal S128x1024 .f32) (d1 : Vec Ideal S1x1024 .f32) (a2 : Vec Ideal S128x1024 .f32) (d2 : Vec Ideal S1x1024 .f32) :
    FVec Ideal S128x1024 .f32 :=
  subf (divf a1 (broadcastTo S128x1024 d1 broadcasts_S1x1024_S128x1024))
    (mulf (broadcastTo S128x1024 (addf (k0_pay422 l) (k0_pay423 (F := Ideal))) broadcasts_S1x1_S128x1024) (divf a2 (broadcastTo S128x1024 d2 broadcasts_S1x1024_S128x1024)))

theorem diffK_apply (l : Vec Ideal S4x64 .f32) (a1 : Vec Ideal S128x1024 .f32) (d1 : Vec Ideal S1x1024 .f32) (a2 : Vec Ideal S128x1024 .f32) (d2 : Vec Ideal S1x1024 .f32)
    (r : Fin 128) (q : Fin 1024) :
    diffK l a1 d1 a2 d2 (ix2 r q) = Ideal.div (a1 (ix2 r q)) (d1 (ix2 (0 : Fin 1) q))
      - lamE (fun a d => l (ix2 a d)) * Ideal.div (a2 (ix2 r q)) (d2 (ix2 (0 : Fin 1) q)) := by
  unfold diffK
  rw [subf_apply, mulf_apply, divf_apply, divf_apply, broadcastTo_1b_ab_apply, broadcastTo_1b_ab_apply]
  refine congrArg₂ (· - ·) rfl (congrArg₂ (· * ·) ?_ rfl)
  exact lam_apply l _

/-- **What a grid point stores.** -/
theorem tail_apply (l : Vec Ideal S4x64 .f32) (a1 : Vec Ideal S128x1024 .f32) (d1 : Vec Ideal S1x1024 .f32) (a2 : Vec Ideal S128x1024 .f32) (d2 : Vec Ideal S1x1024 .f32)
    (w : Vec Ideal S128x1 .f32) (q : Fin 1024) (r : Fin 128) :
    k0_pay1 (k0_pay424 (k0_pay422 l) (k0_pay423 (F := Ideal)) a1 d1 a2 d2 w) (FloatOps.ofBits .f32 1059388764#32) (ix2 q r)
      = tailE (fun r => Ideal.div (a1 (ix2 r q)) (d1 (ix2 (0 : Fin 1) q)) - lamE (fun a d => l (ix2 a d)) * Ideal.div (a2 (ix2 r q)) (d2 (ix2 (0 : Fin 1) q)))
          (fun r => w (ix2 r (0 : Fin 1))) r := by
  have hd := fun r => diffK_apply l a1 d1 a2 d2 r q
  have hr : multiReduction .add [0] S1024 (mulf (diffK l a1 d1 a2 d2) (diffK l a1 d1 a2 d2)) 0x00000000#32 reduces_S128x1024_S1024 (.inl rfl) rfl (ix1 q)
      = ∑ e : Fin 128, diffK l a1 d1 a2 d2 (ix2 e q) * diffK l a1 d1 a2 d2 (ix2 e q) := by
    refine (Ideal.multiReduction_add_single _ _ reduces_S128x1024_S1024 (.inl rfl) rfl (ix1 q)).trans ?_
    refine Finset.sum_congr rfl fun d _ => ?_
    have e : (reduces_S128x1024_S1024).lift (ix1 q) d = ix2 (⟨d.val, d.isLt⟩ : Fin 128) q := by
      funext c; apply Fin.ext; fin_cases c <;> rfl
    rw [e]; rfl
  unfold tailE
  simp only [← hd]
  unfold k0_pay1 k0_pay424
  dsimp only
  rw [truncf_apply, transpose_apply _ _ _ (ix2 q r) (ix2 r q) (by intro b; fin_cases b <;> rfl), mulf_apply, mulf_apply, mulf_apply,
    broadcastTo_1b_ab_apply _ broadcasts_S1x1024_S128x1024 r q]
  refine congrArg₂ (· * ·) (congrArg₂ (· * ·) (congrArg₂ (· * ·) rfl (congrArg Ideal.rsqrt (congrArg₂ (· + ·) (congrArg₂ Ideal.div ?_ rfl) rfl))) ?_) rfl
  · rw [shapeCast_apply _ _ (ix2 (0 : Fin 1) q) (ix1 q) (by simp [Shape.rowMajor_val_one, Shape.rowMajor_val_two])]
    exact hr
  · refine broadcastTo_apply w _ (ix2 r q) (ix2 r (0 : Fin 1)) fun ax => ?_
    fin_cases ax <;> rfl

end Cert.Attn

end
-- ==== Proof.Attn.Point.lean ====
/- A grid point: what it stores in its block of the result. -/
module

public import proofs.«01_k».proof.Proof.Attn.Fill
public import proofs.«01_k».proof.Proof.Attn.Tail

@[expose] public section

set_option maxRecDepth 16384

noncomputable section

namespace Cert.Attn

open Idealize.ShloMosaic Idealize.ShloMosaic.ValueIdx Idealize.SL.Sem Cert.KernelIdeal Cert.KernelIdeal.Gen

/-- A sum over the seen keys does not change with keys that are not seen. -/
theorem wsum_bound (V S : ℕ → ℝ) (vis : ℕ → Prop) [DecidablePred vis] (n N : ℕ) (hN : n ≤ N) (hv : ∀ j, vis j → j < n) (μ : ℝ) :
    wsum V S vis n μ = wsum V S vis N μ := by
  unfold wsum
  refine Finset.sum_subset (Finset.range_mono hN) fun j _ hj => if_neg fun h => hj (Finset.mem_range.mpr (hv j h))

/-- Half `e` of the query columns of a tile. -/
def col (e : Fin 2) (q : Fin 1024) : Fin 2048 := ⟨1024 * e.val + q.val, by omega⟩

/-- The softmax of half `e` of the features, times the values: feature `r` of query `q` of tile `t`. -/
def quo (Qr Kf Vr : ℕ → Fin 128 → ℝ) (t : ℕ) (e : Fin 2) (q : Fin 1024) (r : Fin 128) : ℝ :=
  wsum (fun n => Vr n r) (Sf Kf (Qcol Qr) (col e q)) (fun n => n ≤ 1024 * t + q.val) 8192 0
    / wsum (fun _ => 1) (Sf Kf (Qcol Qr) (col e q)) (fun n => n ≤ 1024 * t + q.val) 8192 0

/-- **Row `q` of tile `t`**, feature `r`. -/
def rowE (Qr Kf Vr : ℕ → Fin 128 → ℝ) (t : ℕ) (l : Fin 4 → Fin 64 → EReal) (w : Fin 128 → EReal) (q : Fin 1024) (r : Fin 128) : EReal :=
  tailE (fun r => ((quo Qr Kf Vr t 0 q r : ℝ) : EReal) - lamE l * ((quo Qr Kf Vr t 1 q r : ℝ) : EReal)) w r

variable (c : Dev nD) (i : grid0.Coords)
  (arg3 : Memref sig .tc .vmem S1024x128 .bf16) (harg3 : arg3.IsWhole) (arg4 : Memref sig .tc .vmem S8192x128 .bf16) (harg4 : arg4.IsWhole)
  (arg5 : Memref sig .tc .vmem S8192x128 .bf16) (harg5 : arg5.IsWhole) (arg6 : Memref sig .tc .vmem S4x64 .f32) (harg6 : arg6.IsWhole)
  (arg7 : Memref sig .tc .vmem S128x1 .f32) (harg7 : arg7.IsWhole) (arg8 : Memref sig .tc .vmem S1024x128 .bf16) (harg8 : arg8.IsWhole)
  (arg9 : Memref sig .tc .vmem S144x8192 .bf16) (harg9 : arg9.IsWhole) (arg10 : Memref sig .tc .vmem S128x2048 .bf16) (harg10 : arg10.IsWhole)
  (arg11 : Memref sig .tc .vmem S1x2048 .f32) (harg11 : arg11.IsWhole) (arg12 : Memref sig .tc .vmem S144x2048 .f32) (harg12 : arg12.IsWhole)
  (arg13 : Memref sig .tc .vmem S4x256x256 .f32) (harg13 : arg13.IsWhole)
  (x0 : Vec Ideal S1024x128 .bf16) (x1 : Vec Ideal S8192x128 .bf16) (x2 : Vec Ideal S8192x128 .bf16) (x3 : Vec Ideal S4x64 .f32) (x4 : Vec Ideal S128x1 .f32)
  (xs0 : Vec Ideal S144x8192 .bf16) (Qr Kf Vr : ℕ → Fin 128 → ℝ)

/-- A quotient of two of the sums. -/
theorem quot (L : List (View.Piece (Elt Ideal) S144x2048 .f32))
    (h : ∀ j : Fin 8, ∃ M, Blk i Kf (Qcol Qr) (Vrow Vr) j (1024 * (i 2).val + 256 * (j.val % 4) + 256) (M, arg12.view.readCov L (cA j)))
    (e : Fin 2) (offA offD : Fin 2 → ℕ) (inbA) (inbD) (hA : offA = ![0, 1024 * e.val]) (hD : offD = ![128, 1024 * e.val]) (q : Fin 1024) (r : Fin 128) :
    Ideal.div (arg12.view.readCov L (Rect.unit (s := S144x2048) offA S128x1024.size inbA).toLoadRect (ix2 r q))
      (arg12.view.readCov L (Rect.unit (s := S144x2048) offD S1x1024.size inbD).toLoadRect (ix2 (0 : Fin 1) q)) = ((quo Qr Kf Vr (i 2).val e q r : ℝ) : EReal) := by
  subst hA hD
  have hq := q.isLt
  have he := e.isLt
  have hj : 4 * e.val + q.val / 256 < 8 := by omega
  have hq' : q.val % 256 < 256 := Nat.mod_lt _ (by decide)
  obtain ⟨M, hB⟩ := h ⟨4 * e.val + q.val / 256, hj⟩
  have hb := hB ⟨q.val % 256, hq'⟩
  have hi : (i 2).val < 8 := (i 2).isLt
  have hm : (4 * e.val + q.val / 256) % 4 = q.val / 256 := by omega
  have hquot := hb.quot (by omega) (Nat.zero_le _) (⟨r.val, by omega⟩ : Fin 144) (⟨128, by omega⟩ : Fin 144) (fun n => by unfold Vrow; rw [dif_neg (by simp)])
  have hcol : colOf ⟨4 * e.val + q.val / 256, hj⟩ ⟨q.val % 256, hq'⟩ = col e q := Fin.ext (by
    show 256 * (4 * e.val + q.val / 256) + q.val % 256 = 1024 * e.val + q.val; omega)
  have hV : (Vrow Vr (⟨r.val, by omega⟩ : Fin 144)) = fun n => Vr n r := funext fun n => by unfold Vrow; rw [dif_pos r.isLt]
  have hvis : Vis (i 2).val ⟨4 * e.val + q.val / 256, hj⟩ ⟨q.val % 256, hq'⟩ = fun n => n ≤ 1024 * (i 2).val + q.val := funext fun n => by
    unfold Vis
    refine propext ?_
    show n ≤ 1024 * (i 2).val + 256 * ((4 * e.val + q.val / 256) % 4) + q.val % 256 ↔ _
    rw [hm]
    omega
  have hw : ∀ V : ℕ → ℝ, wsum V (Sf Kf (Qcol Qr) (colOf ⟨4 * e.val + q.val / 256, hj⟩ ⟨q.val % 256, hq'⟩)) (Vis (i 2).val ⟨4 * e.val + q.val / 256, hj⟩ ⟨q.val % 256, hq'⟩)
        (1024 * (i 2).val + 256 * ((4 * e.val + q.val / 256) % 4) + 256) 0
      = wsum V (Sf Kf (Qcol Qr) (col e q)) (fun n => n ≤ 1024 * (i 2).val + q.val) 8192 0 := by
    intro V
    rw [hcol]
    refine (wsum_bound V _ _ _ 8192 (by omega) (fun j hj => ?_) 0).trans ?_
    · rw [hvis] at hj; dsimp only at hj; rw [hm]; omega
    · unfold wsum
      refine Finset.sum_congr rfl fun n _ => if_congr (iff_of_eq (congrFun hvis n)) rfl rfl
  unfold quo
  rw [← hw, ← hw, ← hV]
  refine Eq.trans ?_ hquot
  have rd : ∀ B : LoadRect S144x2048, arg12.view.readCov L B = fun y => View.canon L (B.idx y) := fun B => View.readCov_eq_canon' (Val := Elt Ideal) arg12.view L B
  refine congrArg₂ Ideal.div ?_ ?_
  · refine (congrFun (rd _) _).trans (Eq.trans (congrArg (View.canon L) (funext fun a => Fin.ext ?_)) (congrFun (rd _) _).symm)
    fin_cases a
    · show 0 + 1 * r.val = 0 + 1 * r.val; rfl
    · show 1024 * e.val + 1 * q.val = 256 * (4 * e.val + q.val / 256) + 1 * (q.val % 256); omega
  · refine (congrFun (rd _) _).trans (Eq.trans (congrArg (View.canon L) (funext fun a => Fin.ext ?_)) (congrFun (rd _) _).symm)
    fin_cases a
    · show 128 + 1 * 0 = 0 + 1 * 128; rfl
    · show 1024 * e.val + 1 * q.val = 256 * (4 * e.val + q.val / 256) + 1 * (q.val % 256); omega

/-- A block stored by one store reads back as what was stored. -/
theorem canon_one (w : Vec Ideal S1024x128 .bf16) (q : Fin 1024) (r : Fin 128) :
    View.canon (Val := Elt Ideal) (e := .bf16) [⟨Rect.unit (s := S1024x128) ![0, 0] S1024x128.size inb_S1024x128_S1024x128_0_0, w⟩] (ix2 q r) = w (ix2 q r) := by
  have e : (ix2 q r : S1024x128.Idx) = (Rect.unit (s := S1024x128) ![0, 0] S1024x128.size inb_S1024x128_S1024x128_0_0).emb (ix2 q r) := by
    funext a; apply Fin.ext; fin_cases a
    · show q.val = 0 + 1 * q.val; omega
    · show r.val = 0 + 1 * r.val; omega
  have h := View.canon_cons_emb (Val := Elt Ideal) (e := .bf16) (Rect.unit (s := S1024x128) ![0, 0] S1024x128.size inb_S1024x128_S1024x128_0_0) w [] (ix2 q r)
  rw [← e] at h
  exact h

/-- The end of a grid point whose sums are those. -/
theorem row_of (L : List (View.Piece (Elt Ideal) S144x2048 .f32))
    (h : ∀ j : Fin 8, ∃ M, Blk i Kf (Qcol Qr) (Vrow Vr) j (1024 * (i 2).val + 256 * (j.val % 4) + 256) (M, arg12.view.readCov L (cA j))) (q : Fin 1024) (r : Fin 128) :
    k0_pay1 (k0_pay424 (k0_pay422 (View.readAt (Elt Ideal) arg6.view (Rect.unit (s := S4x64) ![0, 0] S4x64.size inb_S4x64_S4x64_0_0).toLoadRect (harg6.unread x3))) (k0_pay423 (F := Ideal))
        (arg12.view.readCov L (Rect.unit (s := S144x2048) ![0, 0] S128x1024.size inb_S144x2048_S128x1024_0_0).toLoadRect)
        (arg12.view.readCov L (Rect.unit (s := S144x2048) ![128, 0] S1x1024.size inb_S144x2048_S1x1024_128_0).toLoadRect)
        (arg12.view.readCov L (Rect.unit (s := S144x2048) ![0, 1024] S128x1024.size inb_S144x2048_S128x1024_0_1024).toLoadRect)
        (arg12.view.readCov L (Rect.unit (s := S144x2048) ![128, 1024] S1x1024.size inb_S144x2048_S1x1024_128_1024).toLoadRect)
        (View.readAt (Elt Ideal) arg7.view (Rect.unit (s := S128x1) ![0, 0] S128x1.size inb_S128x1_S128x1_0_0).toLoadRect (harg7.unread x4)))
      (FloatOps.ofBits .f32 1059388764#32) (ix2 q r)
      = rowE Qr Kf Vr (i 2).val (fun a d => x3 (ix2 a d)) (fun r => x4 (ix2 r (0 : Fin 1))) q r := by
  refine (tail_apply _ _ _ _ _ _ q r).trans ?_
  unfold rowE
  have h3 : (fun (a : Fin 4) (d : Fin 64) => View.readAt (Elt Ideal) arg6.view (Rect.unit (s := S4x64) ![0, 0] S4x64.size inb_S4x64_S4x64_0_0).toLoadRect (harg6.unread x3) (ix2 a d)) = fun a d => x3 (ix2 a d) := by
    funext a d
    rw [Memref.IsWhole.readAt_unread]
    refine congrArg x3 (funext fun b => Fin.ext ?_)
    fin_cases b <;> simp [Rect.unit]
  have h4 : (fun (r : Fin 128) => View.readAt (Elt Ideal) arg7.view (Rect.unit (s := S128x1) ![0, 0] S128x1.size inb_S128x1_S128x1_0_0).toLoadRect (harg7.unread x4) (ix2 r (0 : Fin 1))) = fun r => x4 (ix2 r (0 : Fin 1)) := by
    funext a
    rw [Memref.IsWhole.readAt_unread]
    refine congrArg x4 (funext fun b => Fin.ext ?_)
    fin_cases b <;> simp [Rect.unit]
  rw [h3, h4]
  refine congrArg (fun d => tailE d _ r) (funext fun r => ?_)
  exact congrArg₂ (· - ·) (quot i arg12 Qr Kf Vr L h 0 _ _ _ _ rfl rfl q r) (congrArg (lamE _ * ·) (quot i arg12 Qr Kf Vr L h 1 _ _ _ _ rfl rfl q r))

/-- The sums at the end of a grid point that is the first of its head. -/
theorem acc_A (h0 : ∀ (q : Fin 1024) d, x0 (ix2 q d) = ((Qr q.val d : ℝ) : EReal)) (h1 : ∀ (n : Fin 8192) d, x1 (ix2 n d) = ((Kf n.val d : ℝ) : EReal))
    (hv : ∀ (n : Fin 8192) d, x2 (ix2 n d) = ((Vr n.val d : ℝ) : EReal)) (j : Fin 8) :
    ∃ M, Blk i Kf (Qcol Qr) (Vrow Vr) j (1024 * (i 2).val + 256 * (j.val % 4) + 256) (M, arg12.view.readCov (kernelRun0_A.sl.HS3_20 c i arg3 harg3 arg4 harg4 arg5 harg5 arg6 harg6 arg7 harg7 arg8 harg8 arg9 harg9 arg10 harg10 arg11 harg11 arg12 harg12 arg13 harg13 x0 x1 x2) (cA j)) := by
  have H : Holds arg4 arg9 arg10 (harg4.unread x1) (arg9.view.writes (Elt Ideal) arg9.view.junk (kernelRun0_A.sl.HS0_9 c arg5 harg5 x2)) (arg10.view.writes (Elt Ideal) arg10.view.junk (kernelRun0_A.sl.HS1_2 c arg3 harg3 x0)) Kf (Qcol Qr) (Vrow Vr) := by
    refine ⟨fun n d => ?_, fun d q => ?_, fun r n => ?_⟩
    · rw [harg4.read_unread]; exact h1 n d
    · rw [View.read_writes_junk_eq_canon]; exact Q_val c arg3 harg3 x0 Qr h0 d q
    · rw [View.read_writes_junk_eq_canon]; exact V_val c arg5 harg5 x2 Vr hv r n
  obtain ⟨s0, e0, e4, hB⟩ := H.final c i arg3 harg3 arg4 harg4 arg5 harg5 arg6 harg6 arg7 harg7 arg8 harg8 arg9 harg9 arg10 harg10 arg11 harg11 arg12 harg12 arg13 harg13 _ _ _ Kf (Qcol Qr) (Vrow Vr) (kernelRun0_A.sl.HS4_4 c arg3 harg3 arg4 harg4 arg10 x0 x1)
    (fun j a q => (congrFun (P_read c arg3 harg3 arg4 harg4 arg10 arg13 x0 x1 j) (ix2 a q)).trans ((H.score ![0, 0] inb_S8192x128_S256x128_0_0 0 rfl (j.castLE (by decide)) a q).trans (by rw [Nat.zero_add])))
    (fun j => fill_blk i arg11 arg12 Kf (Qcol Qr) (Vrow Vr) j)
  have e := diag_A (F := Ideal) c i arg3 harg3 arg4 harg4 arg5 harg5 arg6 harg6 arg7 harg7 arg8 harg8 arg9 harg9 arg10 harg10 arg11 harg11 arg12 harg12 arg13 harg13 x0 x1 x2 s0 e0 e4 j
  rw [e]
  exact ⟨_, hB j⟩

/-- The one store into the result's block. -/
theorem list_A (hc0 : cond0_0 i) :
    (kernelRun0_A (F := Ideal) c i arg3 harg3 arg4 harg4 arg5 harg5 arg6 harg6 arg7 harg7 arg8 harg8 arg9 harg9 arg10 harg10 arg11 harg11 arg12 harg12 arg13 harg13 hc0 x0 x1 x2 x3 x4).1
      = [⟨Rect.unit (s := S1024x128) ![0, 0] S1024x128.size inb_S1024x128_S1024x128_0_0, k0_pay1 (kernelRun0_A.sl.r_48 c i arg3 harg3 arg4 harg4 arg5 harg5 arg6 harg6 arg7 harg7 arg8 harg8 arg9 harg9 arg10 harg10 arg11 harg11 arg12 harg12 arg13 harg13 x0 x1 x2 x3 x4) kernelRun0_A.sl.cst_446⟩] := by
  unfold kernelRun0_A
  rfl

/-- **What a grid point that is the first of its head stores.** -/
theorem out_A (hc0 : cond0_0 i) (h0 : ∀ (q : Fin 1024) d, x0 (ix2 q d) = ((Qr q.val d : ℝ) : EReal)) (h1 : ∀ (n : Fin 8192) d, x1 (ix2 n d) = ((Kf n.val d : ℝ) : EReal))
    (hv : ∀ (n : Fin 8192) d, x2 (ix2 n d) = ((Vr n.val d : ℝ) : EReal)) (q : Fin 1024) (r : Fin 128) :
    out0_A_5 c i arg3 harg3 arg4 harg4 arg5 harg5 arg6 harg6 arg7 harg7 arg8 harg8 arg9 harg9 arg10 harg10 arg11 harg11 arg12 harg12 arg13 harg13 hc0 x0 x1 x2 x3 x4 (ix2 q r) = rowE Qr Kf Vr (i 2).val (fun a d => x3 (ix2 a d)) (fun r => x4 (ix2 r (0 : Fin 1))) q r := by
  refine Eq.trans ?_ (row_of i arg6 harg6 arg7 harg7 arg12 x3 x4 Qr Kf Vr (kernelRun0_A.sl.HS3_20 c i arg3 harg3 arg4 harg4 arg5 harg5 arg6 harg6 arg7 harg7 arg8 harg8 arg9 harg9 arg10 harg10 arg11 harg11 arg12 harg12 arg13 harg13 x0 x1 x2)
    (acc_A c i arg3 harg3 arg4 harg4 arg5 harg5 arg6 harg6 arg7 harg7 arg8 harg8 arg9 harg9 arg10 harg10 arg11 harg11 arg12 harg12 arg13 harg13 x0 x1 x2 Qr Kf Vr h0 h1 hv) q r)
  unfold out0_A_5
  rw [View.read_writes_junk_eq_canon, list_A]
  refine (canon_one _ q r).trans ?_
  delta kernelRun0_A.sl.r_48 kernelRun0_A.sl.r_47 kernelRun0_A.sl.v754 kernelRun0_A.sl.v755 kernelRun0_A.sl.v758 kernelRun0_A.sl.v759 kernelRun0_A.sl.cst_446
  rfl

/-- The sums at the end of a grid point that is not the first of its head. -/
theorem acc_B (h0 : ∀ (q : Fin 1024) d, x0 (ix2 q d) = ((Qr q.val d : ℝ) : EReal)) (h1 : ∀ (n : Fin 8192) d, x1 (ix2 n d) = ((Kf n.val d : ℝ) : EReal))
    (hv : ∀ (r : Fin 144) (n : Fin 8192), xs0 (ix2 r n) = ((Vrow Vr r n.val : ℝ) : EReal)) (j : Fin 8) :
    ∃ M, Blk i Kf (Qcol Qr) (Vrow Vr) j (1024 * (i 2).val + 256 * (j.val % 4) + 256) (M, arg12.view.readCov (kernelRun0_B.sl.HS3_20 c i arg3 harg3 arg4 harg4 arg5 harg5 arg6 harg6 arg7 harg7 arg8 harg8 arg9 harg9 arg10 harg10 arg11 harg11 arg12 harg12 arg13 harg13 x0 x1 xs0) (cA j)) := by
  have H : Holds arg4 arg9 arg10 (harg4.unread x1) (harg9.unread xs0) (arg10.view.writes (Elt Ideal) arg10.view.junk (kernelRun0_B.sl.HS1_2 c arg3 harg3 x0)) Kf (Qcol Qr) (Vrow Vr) := by
    refine ⟨fun n d => ?_, fun d q => ?_, fun r n => ?_⟩
    · rw [harg4.read_unread]; exact h1 n d
    · rw [View.read_writes_junk_eq_canon]; exact Q_val c arg3 harg3 x0 Qr h0 d q
    · rw [harg9.read_unread]; exact hv r n
  obtain ⟨s0, e0, e4, hB⟩ := H.final c i arg3 harg3 arg4 harg4 arg5 harg5 arg6 harg6 arg7 harg7 arg8 harg8 arg9 harg9 arg10 harg10 arg11 harg11 arg12 harg12 arg13 harg13 _ _ _ Kf (Qcol Qr) (Vrow Vr) (kernelRun0_B.sl.HS4_4 c arg3 harg3 arg4 harg4 arg10 x0 x1)
    (fun j a q => (congrFun (P_read c arg3 harg3 arg4 harg4 arg10 arg13 x0 x1 j) (ix2 a q)).trans ((H.score ![0, 0] inb_S8192x128_S256x128_0_0 0 rfl (j.castLE (by decide)) a q).trans (by rw [Nat.zero_add])))
    (fun j => fill_blk i arg11 arg12 Kf (Qcol Qr) (Vrow Vr) j)
  have e := diag_B (F := Ideal) c i arg3 harg3 arg4 harg4 arg5 harg5 arg6 harg6 arg7 harg7 arg8 harg8 arg9 harg9 arg10 harg10 arg11 harg11 arg12 harg12 arg13 harg13 x0 x1 xs0 s0 e0 e4 j
  rw [e]
  exact ⟨_, hB j⟩

/-- The one store into the result's block. -/
theorem list_B (hc0 : ¬ cond0_0 i) :
    (kernelRun0_B (F := Ideal) c i arg3 harg3 arg4 harg4 arg5 harg5 arg6 harg6 arg7 harg7 arg8 harg8 arg9 harg9 arg10 harg10 arg11 harg11 arg12 harg12 arg13 harg13 hc0 x0 x1 x2 x3 x4 xs0).1
      = [⟨Rect.unit (s := S1024x128) ![0, 0] S1024x128.size inb_S1024x128_S1024x128_0_0, k0_pay1 (kernelRun0_B.sl.r_48 c i arg3 harg3 arg4 harg4 arg5 harg5 arg6 harg6 arg7 harg7 arg8 harg8 arg9 harg9 arg10 harg10 arg11 harg11 arg12 harg12 arg13 harg13 x0 x1 x3 x4 xs0) kernelRun0_B.sl.cst_446⟩] := by
  unfold kernelRun0_B
  rfl

/-- **What a grid point that is not the first of its head stores.** -/
theorem out_B (hc0 : ¬ cond0_0 i) (h0 : ∀ (q : Fin 1024) d, x0 (ix2 q d) = ((Qr q.val d : ℝ) : EReal)) (h1 : ∀ (n : Fin 8192) d, x1 (ix2 n d) = ((Kf n.val d : ℝ) : EReal))
    (hv : ∀ (r : Fin 144) (n : Fin 8192), xs0 (ix2 r n) = ((Vrow Vr r n.val : ℝ) : EReal)) (q : Fin 1024) (r : Fin 128) :
    out0_B_5 c i arg3 harg3 arg4 harg4 arg5 harg5 arg6 harg6 arg7 harg7 arg8 harg8 arg9 harg9 arg10 harg10 arg11 harg11 arg12 harg12 arg13 harg13 hc0 x0 x1 x2 x3 x4 xs0 (ix2 q r) = rowE Qr Kf Vr (i 2).val (fun a d => x3 (ix2 a d)) (fun r => x4 (ix2 r (0 : Fin 1))) q r := by
  refine Eq.trans ?_ (row_of i arg6 harg6 arg7 harg7 arg12 x3 x4 Qr Kf Vr (kernelRun0_B.sl.HS3_20 c i arg3 harg3 arg4 harg4 arg5 harg5 arg6 harg6 arg7 harg7 arg8 harg8 arg9 harg9 arg10 harg10 arg11 harg11 arg12 harg12 arg13 harg13 x0 x1 xs0)
    (acc_B c i arg3 harg3 arg4 harg4 arg5 harg5 arg6 harg6 arg7 harg7 arg8 harg8 arg9 harg9 arg10 harg10 arg11 harg11 arg12 harg12 arg13 harg13 x0 x1 xs0 Qr Kf Vr h0 h1 hv) q r)
  unfold out0_B_5
  rw [View.read_writes_junk_eq_canon, list_B]
  refine (canon_one _ q r).trans ?_
  delta kernelRun0_B.sl.r_48 kernelRun0_B.sl.r_47 kernelRun0_B.sl.v754 kernelRun0_B.sl.v755 kernelRun0_B.sl.v758 kernelRun0_B.sl.v759 kernelRun0_B.sl.cst_446
  rfl

end Cert.Attn

end
-- ==== Proof.Attn.Array.lean ====
/- The kernel's result array as one function of its arguments. -/
module

public import proofs.«01_k».proof.Proof.Attn.Point
public import proofs.«01_k».proof.Proof.Gen.KernelIdeal.Value

@[expose] public section

set_option maxRecDepth 16384

noncomputable section

namespace Cert.Attn

open Idealize.ShloMosaic Idealize.ShloMosaic.ValueIdx Idealize.ShloMosaic.TcCoe Idealize.SL.Sem Cert.KernelIdeal Cert.KernelIdeal.Gen
open Idealize.ShloMosaic.Pipeline (Dat)

/-- Queries of tile `t`, keys and values of batch `b`, head `h`: rows and columns of the projected array. -/
def Qof (Xr : ℕ → ℕ → ℝ) (b h t : ℕ) : ℕ → Fin 128 → ℝ := fun q d => Xr (8192 * b + 1024 * t + q) (3072 + 128 * h + d.val)
def Kof (Xr : ℕ → ℕ → ℝ) (b h : ℕ) : ℕ → Fin 128 → ℝ := fun n d => Xr (8192 * b + n) (128 * h + d.val)
def Vof (Xr : ℕ → ℕ → ℝ) (b h : ℕ) : ℕ → Fin 128 → ℝ := fun n d => Xr (8192 * b + n) (1536 + 128 * h + d.val)

/-- The result at batch `b`, head `h`, tile `t`, row `q` of the tile and feature `r`. -/
def cellE (Xr : ℕ → ℕ → ℝ) (L : Vec Ideal S4x64 .f32) (W : Vec Ideal S128x1 .f32) (b h t : ℕ) (q : Fin 1024) (r : Fin 128) : EReal :=
  rowE (Qof Xr b h t) (Kof Xr b h) (Vof Xr b h) t (fun a d => L (ix2 a d)) (fun r => W (ix2 r (0 : Fin 1))) q r

/-- **The result array.** -/
def arrE (Xr : ℕ → ℕ → ℝ) (L : Vec Ideal S4x64 .f32) (W : Vec Ideal S128x1 .f32) : Vec Ideal S32768x1536 .bf16 := fun i =>
  cellE Xr L W ((i 0).val / 8192) ((i 1).val / 128) ((i 0).val % 8192 / 1024) ⟨(i 0).val % 1024, Nat.mod_lt _ (by decide)⟩ ⟨(i 1).val % 128, Nat.mod_lt _ (by decide)⟩

theorem arrE_at (Xr : ℕ → ℕ → ℝ) (L : Vec Ideal S4x64 .f32) (W : Vec Ideal S128x1 .f32) (i : S32768x1536.Idx) (b h t : ℕ) (q : Fin 1024) (r : Fin 128)
    (ht : t < 8) (h0 : (i 0).val = 8192 * b + 1024 * t + q.val) (h1 : (i 1).val = 128 * h + r.val) : arrE Xr L W i = cellE Xr L W b h t q r := by
  have hq := q.isLt
  have hr := r.isLt
  unfold arrE
  have e1 : (i 0).val / 8192 = b := by omega
  have e2 : (i 1).val / 128 = h := by omega
  have e3 : (i 0).val % 8192 / 1024 = t := by omega
  have e4 : (⟨(i 0).val % 1024, Nat.mod_lt _ (by decide)⟩ : Fin 1024) = q := Fin.ext (by show (i 0).val % 1024 = _; omega)
  have e5 : (⟨(i 1).val % 128, Nat.mod_lt _ (by decide)⟩ : Fin 128) = r := Fin.ext (by show (i 1).val % 128 = _; omega)
  rw [e1, e2, e3, e4, e5]

/-! ## The blocks -/

theorem idx0 : ∀ t : Fin cfg0.N, win0_0.index t (0 : Fin 2) = 8 * (t.val / 96) + t.val % 8 ∧ win0_0.index t (1 : Fin 2) = 24 + t.val / 8 % 12 :=
  (by decide +kernel : ∀ t : Fin grid0.N, _)
theorem idx1 : ∀ t : Fin cfg0.N, win0_1.index t (0 : Fin 2) = t.val / 96 ∧ win0_1.index t (1 : Fin 2) = t.val / 8 % 12 :=
  (by decide +kernel : ∀ t : Fin grid0.N, _)
theorem idx2 : ∀ t : Fin cfg0.N, win0_2.index t (0 : Fin 2) = t.val / 96 ∧ win0_2.index t (1 : Fin 2) = 12 + t.val / 8 % 12 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 8 * (t.val / 96) + t.val % 8 ∧ win0_5.index t (1 : Fin 2) = t.val / 8 % 12 :=
  (by decide +kernel : ∀ t : Fin grid0.N, _)
theorem tile_eq : ∀ t : Fin cfg0.N, ((grid0.coords t) 2).val = t.val % 8 :=
  (by decide +kernel : ∀ t : Fin grid0.N, _)
theorem ext5 : ∀ t : Fin cfg0.N, win0_5.xsize (grid0.coords t) (0 : Fin 2) = 1024 ∧ win0_5.xsize (grid0.coords t) (1 : Fin 2) = 128 :=
  (by decide +kernel : ∀ t : Fin grid0.N, _)

variable (m : (ℓ : Loc nD τ sig) → Buf (Elt Ideal) ℓ) (c : Dev nD) (Xr : ℕ → ℕ → ℝ)
  (hX : ∀ (i : Fin 32768) (j : Fin 5120), j.val < 4608 → m ((c : Thread nD τ).loc main_arg0) (ix2 i j) = ((Xr i.val j.val : ℝ) : EReal))

include hX

theorem at_eq (i : S32768x5120.Idx) (a b : ℕ) (hb : b < 4608) (h0 : (i 0).val = a) (h1 : (i 1).val = b) : m ((c : Thread nD τ).loc main_arg0) i = ((Xr a b : ℝ) : EReal) := by
  subst h0 h1
  refine Eq.trans (congrArg _ (funext fun a => ?_)) (hX (i 0) (i 1) hb)
  fin_cases a <;> rfl

theorem blk0 (t : Fin cfg0.N) (q : Fin 1024) (d : Fin 128) :
    (iblk m c 0 t : Vec Ideal S1024x128 .bf16) (ix2 q d) = ((Qof Xr (t.val / 96) (t.val / 8 % 12) (t.val % 8) q.val d : ℝ) : EReal) := by
  obtain ⟨e0, e1⟩ := idx0 t
  have hd := d.isLt
  refine at_eq m c Xr hX (((cfg0.win 0).blk t).view.emb (ix2 q d)) _ _ (by omega) ?_ ?_
  · show win0_0.index t (0 : Fin 2) * 1024 + 1 * q.val = _; omega
  · show win0_0.index t (1 : Fin 2) * 128 + 1 * d.val = _; omega

theorem blk1 (t : Fin cfg0.N) (n : Fin 8192) (d : Fin 128) :
    (iblk m c 1 t : Vec Ideal S8192x128 .bf16) (ix2 n d) = ((Kof Xr (t.val / 96) (t.val / 8 % 12) n.val d : ℝ) : EReal) := by
  obtain ⟨e0, e1⟩ := idx1 t
  have hd := d.isLt
  refine at_eq m c Xr hX (((cfg0.win 1).blk t).view.emb (ix2 n d)) _ _ (by omega) ?_ ?_
  · show win0_1.index t (0 : Fin 2) * 8192 + 1 * n.val = _; omega
  · show win0_1.index t (1 : Fin 2) * 128 + 1 * d.val = _; omega

theorem blk2 (t : Fin cfg0.N) (n : Fin 8192) (d : Fin 128) :
    (iblk m c 2 t : Vec Ideal S8192x128 .bf16) (ix2 n d) = ((Vof Xr (t.val / 96) (t.val / 8 % 12) n.val d : ℝ) : EReal) := by
  obtain ⟨e0, e1⟩ := idx2 t
  have hd := d.isLt
  refine at_eq m c Xr hX (((cfg0.win 2).blk t).view.emb (ix2 n d)) _ _ (by omega) ?_ ?_
  · show win0_2.index t (0 : Fin 2) * 8192 + 1 * n.val = _; omega
  · show win0_2.index t (1 : Fin 2) * 128 + 1 * d.val = _; omega

omit hX in
theorem blk3 (t : Fin cfg0.N) : (iblk m c 3 t : Vec Ideal S4x64 .f32) = m ((c : Thread nD τ).loc main_arg1) := by
  obtain ⟨e0, e1⟩ := idx3 t
  funext j
  show V m c main_arg1 (((cfg0.win 3).blk t).view.emb j) = V m c main_arg1 j
  refine congrArg _ (funext fun a => Fin.ext ?_)
  match a with
  | ⟨0, _⟩ => show win0_3.index t (0 : Fin 2) * 4 + 1 * (j 0).val = (j 0).val; omega
  | ⟨1, _⟩ => show win0_3.index t (1 : Fin 2) * 64 + 1 * (j 1).val = (j 1).val; omega

omit hX in
theorem blk4 (t : Fin cfg0.N) : (iblk m c 4 t : Vec Ideal S128x1 .f32) = m ((c : Thread nD τ).loc main_arg2) := by
  obtain ⟨e0, e1⟩ := idx4 t
  funext j
  show V m c main_arg2 (((cfg0.win 4).blk t).view.emb j) = V m c main_arg2 j
  refine congrArg _ (funext fun a => Fin.ext ?_)
  match a with
  | ⟨0, _⟩ => show win0_4.index t (0 : Fin 2) * 128 + 1 * (j 0).val = (j 0).val; omega
  | ⟨1, _⟩ => show win0_4.index t (1 : Fin 2) * 1 + 1 * (j 1).val = (j 1).val; omega

/-- **The values kept between the points of a head** are the head's values, transposed, with rows of ones below. -/
theorem kept (n : ℕ) (hn : n < cfg0.N) (r : Fin 144) (k : Fin 8192) :
    (outsAt0 m c n hn).2 (ix2 r k) = ((Vrow (Vof Xr (n / 96) (n / 8 % 12)) r k.val : ℝ) : EReal) := by
  induction n with
  | zero =>
    rw [outsAt0_A m c ⟨0, hn⟩ rfl]
    unfold sout0_A_0
    rw [View.read_writes_junk_eq_canon]
    exact V_val c _ (hs0_2 ⟨0, hn⟩) _ _ (fun n d => blk2 m c Xr hX ⟨0, hn⟩ n d) r k
  | succ n ih =>
    by_cases h0 : (n + 1) % 8 = 0
    · rw [outsAt0_A m c ⟨n + 1, hn⟩ h0]
      unfold sout0_A_0
      rw [View.read_writes_junk_eq_canon]
      exact V_val c _ (hs0_2 ⟨n + 1, hn⟩) _ _ (fun n' d => blk2 m c Xr hX ⟨n + 1, hn⟩ n' d) r k
    · have e := outsAt0_B m c ⟨n + 1, hn⟩ h0
      have e1 : (n + 1) / 96 = n / 96 := by omega
      have e2 : (n + 1) / 8 = n / 8 := by omega
      rw [e1, e2]
      refine Eq.trans ?_ (ih (Nat.lt_of_succ_lt hn))
      rw [e]
      rfl

/-- **What point `t` writes back.** -/
theorem flushed_eq (t : Fin cfg0.N) :
    (dats m 0 c).flushed 5 t = ((cfg0.win 5).blk t).view.read (Elt Ideal) (arrE Xr (m ((c : Thread nD τ).loc main_arg1)) (m ((c : Thread nD τ).loc main_arg2))) := by
  obtain ⟨e0, e1⟩ := idx5 t
  have e2 := tile_eq t
  funext y
  obtain ⟨q, r, rfl⟩ : ∃ (q : Fin 1024) (r : Fin 128), y = ix2 q r := ⟨y 0, y 1, funext fun a => by fin_cases a <;> rfl⟩
  have eG := arrE_at Xr (m ((c : Thread nD τ).loc main_arg1)) (m ((c : Thread nD τ).loc main_arg2)) (((cfg0.win 5).blk t).view.emb (ix2 q r)) (t.val / 96) (t.val / 8 % 12) (t.val % 8) q r
    (Nat.mod_lt _ (by decide))
    (by show win0_5.index t (0 : Fin 2) * 1024 + 1 * q.val = _; omega)
    (by show win0_5.index t (1 : Fin 2) * 128 + 1 * r.val = _; omega)
  refine Eq.trans ?_ eG.symm
  unfold cellE
  by_cases h0 : t.val % 8 = 0
  · rw [Value.flushed5_A m c t h0]
    have o := out_A c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) scM0_1 (Memref.isWhole_whole _) scM0_2 (Memref.isWhole_whole _) scM0_3 (Memref.isWhole_whole _) scM0_4 (Memref.isWhole_whole _)
      (iblk m c 0 t) (iblk m c 1 t) (iblk m c 2 t) (iblk m c 3 t) (iblk m c 4 t) _ _ _ ((hcond0_0 t).mpr h0)
      (fun q d => blk0 m c Xr hX t q d) (fun q d => blk1 m c Xr hX t q d) (fun q d => blk2 m c Xr hX t q d) q r
    rw [e2, blk3 m c t, blk4 m c t] at o
    rw [blk3 m c t, blk4 m c t]
    exact o
  · rw [Value.flushed5_B m c t h0]
    have hn : t.val - 1 < cfg0.N := Nat.lt_of_le_of_lt (Nat.sub_le _ _) t.isLt
    have f1 : (t.val - 1) / 96 = t.val / 96 := by omega
    have f2 : (t.val - 1) / 8 = t.val / 8 := by omega
    have o := out_B c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) scM0_1 (Memref.isWhole_whole _) scM0_2 (Memref.isWhole_whole _) scM0_3 (Memref.isWhole_whole _) scM0_4 (Memref.isWhole_whole _)
      (iblk m c 0 t) (iblk m c 1 t) (iblk m c 2 t) (iblk m c 3 t) (iblk m c 4 t) (outsAt0 m c (t.val - 1) hn).2 _ _ (Vof Xr (t.val / 96) (t.val / 8 % 12)) (fun h => h0 ((hcond0_0 t).mp h))
      (fun q d => blk0 m c Xr hX t q d) (fun q d => blk1 m c Xr hX t q d) (fun r n => by rw [kept m c Xr hX _ hn r n, f1, f2]) q r
    rw [e2, blk3 m c t, blk4 m c t] at o
    rw [blk3 m c t, blk4 m c t]
    exact o

omit hX in
/-- The blocks cover the result. -/
theorem covered (i : S32768x1536.Idx) : ∃ t : Fin cfg0.N, (cfg0.win 5).flush t = true ∧ i ∈ ((cfg0.win 5).blk t).view.set := by
  have h0 : (i 0).val < 32768 := (i 0).isLt
  have h1 : (i 1).val < 1536 := (i 1).isLt
  have hN : cfg0.N = 384 := N_0
  have ht : 96 * ((i 0).val / 8192) + 8 * ((i 1).val / 128) + (i 0).val % 8192 / 1024 < cfg0.N := by omega
  refine ⟨⟨_, ht⟩, flush0_5 _, ?_⟩
  generalize hT : (⟨_, ht⟩ : Fin cfg0.N) = T
  have hv : T.val = 96 * ((i 0).val / 8192) + 8 * ((i 1).val / 128) + (i 0).val % 8192 / 1024 := by rw [← hT]
  obtain ⟨e0, e1⟩ := idx5 T
  obtain ⟨x0, x1⟩ := ext5 T
  show i ∈ ((View.whole main_v0).slice (win0_5.rect T)).set
  rw [View.set_slice_whole, Rect.mem_set_unit]
  intro a
  match a with
  | ⟨0, _⟩ =>
    show win0_5.index T (0 : Fin 2) * 1024 ≤ (i 0).val ∧ (i 0).val < win0_5.index T (0 : Fin 2) * 1024 + win0_5.xsize (grid0.coords T) (0 : Fin 2)
    rw [x0, e0]; omega
  | ⟨1, _⟩ =>
    show win0_5.index T (1 : Fin 2) * 128 ≤ (i 1).val ∧ (i 1).val < win0_5.index T (1 : Fin 2) * 128 + win0_5.xsize (grid0.coords T) (1 : Fin 2)
    rw [x1, e1]; omega

/-- **The result array of the kernel.** -/
theorem final : (dats m 0 c).arrAt 5 cfg0.N = arrE Xr (m ((c : Thread nD τ).loc main_arg1)) (m ((c : Thread nD τ).loc main_arg2)) :=
  (dats m 0 c).arrAt_eq_of_cover 5 _ (fun t _ => flushed_eq m c Xr hX t) covered

end Cert.Attn

end
-- ==== Proof.Attn.RefArr.lean ====
/- The reference's result is the kernel's: both are one function of real queries, keys and values. -/
module

public import proofs.«01_k».proof.Proof.Attn.RefVal
public import proofs.«01_k».proof.Proof.Attn.Array
public import Idealize.ShloMosaic.Lib.Pointwise.IndexBridge

@[expose] public section

set_option maxRecDepth 16384

noncomputable section

namespace Cert.Attn.Ref

open Cert.ReferenceIdeal Cert.ReferenceIdeal.Gen Idealize.ShloMosaic Idealize.ShloMosaic.TcCoe Idealize.SL.Sem

/-- The score of key `n` for query `q`, over half `e` of head `h`'s features. -/
def scoreR (Xr : ℕ → ℕ → ℝ) (b h : ℕ) (e : Fin 2) (q n : ℕ) : ℝ :=
  ∑ d : Fin 64, Xr (8192 * b + q) (3072 + 128 * h + 64 * e.val + d.val) * Xr (8192 * b + n) (128 * h + 64 * e.val + d.val)

/-- The softmax over half `e`, times the values. -/
def quoR (Xr : ℕ → ℕ → ℝ) (b h : ℕ) (e : Fin 2) (q r : ℕ) : ℝ :=
  wsum (fun n => Xr (8192 * b + n) (1536 + 128 * h + r)) (scoreR Xr b h e q) (fun n => n ≤ q) 8192 0
    / wsum (fun _ => 1) (scoreR Xr b h e q) (fun n => n ≤ q) 8192 0

/-- The score over the half's features is the score over all of them with the other half's queries at zero. -/
theorem score_eq (Xr : ℕ → ℕ → ℝ) (b h t : ℕ) (e : Fin 2) (q : Fin 1024) (n : ℕ) :
    Sf (Kof Xr b h) (Qcol (Qof Xr b h t)) (col e q) n = scoreR Xr b h e (1024 * t + q.val) n := by
  have hq := q.isLt
  unfold Sf scoreR
  rw [show ∀ f : Fin 128 → ℝ, ∑ d, f d = ∑ d : Fin (64 + 64), f d from fun _ => rfl, Fin.sum_univ_add]
  have h0 : ∀ d : Fin 64, (Fin.castAdd 64 d : Fin (64 + 64)).val = d.val := fun _ => rfl
  have h1 : ∀ d : Fin 64, (Fin.natAdd 64 d : Fin (64 + 64)).val = 64 + d.val := fun _ => rfl
  have he : e = 0 ∨ e = 1 := by omega
  rcases he with rfl | rfl
  · have c0 : (col 0 q).val = q.val := by simp [col]
    rw [Finset.sum_eq_zero (s := Finset.univ) (f := fun d : Fin 64 => Kof Xr b h n (Fin.natAdd 64 d) * Qcol (Qof Xr b h t) (Fin.natAdd 64 d) (col 0 q)), add_zero]
    · refine Finset.sum_congr rfl fun d _ => ?_
      have hd := d.isLt
      unfold Qcol
      rw [c0, if_pos hq, if_pos (by rw [h0]; exact hd)]
      unfold Kof Qof
      rw [h0, mul_comm]
      simp [add_assoc]
    · intro d _
      unfold Qcol
      rw [c0, if_pos hq, if_neg (by rw [h1]; omega), mul_zero]
  · have c1 : (col 1 q).val = 1024 + q.val := by simp [col]
    rw [Finset.sum_eq_zero (s := Finset.univ) (f := fun d : Fin 64 => Kof Xr b h n (Fin.castAdd 64 d) * Qcol (Qof Xr b h t) (Fin.castAdd 64 d) (col 1 q)), zero_add]
    · refine Finset.sum_congr rfl fun d _ => ?_
      unfold Qcol
      rw [c1, if_neg (by omega), if_pos (by rw [h1]; omega), Nat.add_sub_cancel_left]
      unfold Kof Qof
      rw [h1, mul_comm]
      simp [add_assoc]
    · intro d _
      have hd := d.isLt
      unfold Qcol
      rw [c1, if_neg (by omega), if_neg (by rw [h0]; omega), mul_zero]

theorem quo_eq (Xr : ℕ → ℕ → ℝ) (b h t : ℕ) (e : Fin 2) (q : Fin 1024) (r : Fin 128) :
    quo (Qof Xr b h t) (Kof Xr b h) (Vof Xr b h) t e q r = quoR Xr b h e (1024 * t + q.val) r.val := by
  unfold quo quoR
  rw [show Sf (Kof Xr b h) (Qcol (Qof Xr b h t)) (col e q) = scoreR Xr b h e (1024 * t + q.val) from funext fun n => score_eq Xr b h t e q n]
  rfl

section
variable (X : FVec Ideal S32768x5120 .bf16) (L : FVec Ideal S4x64 .f32) (W : FVec Ideal S128x1 .f32) (Xr : ℕ → ℕ → ℝ)
  (hX : ∀ (i : Fin 32768) (j : Fin 5120), j.val < 4608 → X (ix2 i j) = ((Xr i.val j.val : ℝ) : EReal))
include hX

theorem sH_real (b : Fin 4) (h : Fin 12) (e : Fin 2) (q k : Fin 8192) :
    sH X (ix5 b h e q k) = ((scoreR Xr b.val h.val e q.val k.val * Real.log 2 : ℝ) : EReal) := by
  rw [sH_apply, log_two, EReal.coe_mul]
  congr 1
  unfold scoreR
  rw [coe_sum]
  refine Finset.sum_congr rfl fun d _ => ?_
  rw [qH_apply, kH_apply, hX _ _ (by show 3072 + 128 * h.val + 64 * e.val + d.val < 4608; omega), hX _ _ (by show 128 * h.val + 64 * e.val + d.val < 4608; omega), ← EReal.coe_mul]

/-- A row of the weights: the softmax of the masked scores. -/
theorem prH_real (b : Fin 4) (h : Fin 12) (e : Fin 2) (q : Fin 8192) :
    ∃ ν : ℝ, ∀ k : Fin 8192, prH (F := Ideal) (exH (zH (sH X))) (ix5 b h e q k)
      = (((if k.val ≤ q.val then (2 : ℝ) ^ (scoreR Xr b.val h.val e q.val k.val - ν) else 0) / wsum (fun _ => 1) (scoreR Xr b.val h.val e q.val) (fun n => n ≤ q.val) 8192 ν : ℝ) : EReal) := by
  obtain ⟨ν, hν⟩ := soft_row (scoreR Xr b.val h.val e q.val) q.val (fun k => zH (F := Ideal) (sH X) (ix5 b h e q k))
    (fun k => by rw [zH_apply, sH_real X Xr hX])
  refine ⟨ν, fun k => ?_⟩
  rw [prH_apply, ← hν k]
  simp only [exH_apply, mxH_apply]

/-- The two softmaxes' difference, times the values. -/
theorem oH_real (lam : FVec Ideal S_ .f32) (l : ℝ) (hl : lam ix0 = (l : EReal)) (b : Fin 4) (h : Fin 12) (q : Fin 8192) (r : Fin 128) :
    oH X (awH (prH (exH (zH (sH X)))) lam) (ix4 b q h r)
      = ((quoR Xr b.val h.val 0 q.val r.val : ℝ) : EReal) - (l : EReal) * ((quoR Xr b.val h.val 1 q.val r.val : ℝ) : EReal) := by
  obtain ⟨ν0, h0⟩ := prH_real X Xr hX b h 0 q
  obtain ⟨ν1, h1⟩ := prH_real X Xr hX b h 1 q
  unfold quoR
  rw [oH_apply, ← weighted _ _ _ ν0, ← weighted _ _ _ ν1, ← diff_sum]
  refine Finset.sum_congr rfl fun k _ => ?_
  rw [awH_apply, hl, h0 k, h1 k, vH_apply, hX _ _ (by show 1536 + 128 * h.val + r.val < 4608; omega)]

/-- **The reference's result is the kernel's.** -/
theorem outH_eq (l : ℝ) (hl : lamE (fun a d => L (ix2 a d)) = (l : EReal)) : outH X L W = arrE Xr L W := by
  funext z
  obtain ⟨i, j, rfl⟩ : ∃ (i : Fin 32768) (j : Fin 1536), z = ix2 i j := ⟨z 0, z 1, funext fun a => by fin_cases a <;> rfl⟩
  have hi := i.isLt
  have hj := j.isLt
  have hlam : lamH L ix0 = (l : EReal) := (lamH_apply L ix0).trans hl
  have hA : arrE Xr L W (ix2 i j) = cellE Xr L W (i.val / 8192) (j.val / 128) (i.val % 8192 / 1024) ⟨i.val % 1024, Nat.mod_lt _ (by decide)⟩ ⟨j.val % 128, Nat.mod_lt _ (by decide)⟩ := rfl
  rw [hA, outH_apply, nH_apply]
  unfold cellE rowE tailE
  have hlE : lamE (fun a d => L (ValueIdx.ix2 a d)) = (l : EReal) := by
    rw [← hl]
    congr 1
  have hq : 1024 * (i.val % 8192 / 1024) + i.val % 1024 = i.val % 8192 := by omega
  have ho : ∀ r : Fin 128, oH X (awH (prH (exH (zH (sH X)))) (lamH L)) (ix4 (⟨i.val / 8192, by omega⟩ : Fin 4) (⟨i.val % 8192, by omega⟩ : Fin 8192) (⟨j.val / 128, by omega⟩ : Fin 12) r)
      = ((quo (Qof Xr (i.val / 8192) (j.val / 128) (i.val % 8192 / 1024)) (Kof Xr (i.val / 8192) (j.val / 128)) (Vof Xr (i.val / 8192) (j.val / 128)) (i.val % 8192 / 1024) 0 ⟨i.val % 1024, Nat.mod_lt _ (by decide)⟩ r : ℝ) : EReal)
        - lamE (fun a d => L (ValueIdx.ix2 a d)) * ((quo (Qof Xr (i.val / 8192) (j.val / 128) (i.val % 8192 / 1024)) (Kof Xr (i.val / 8192) (j.val / 128)) (Vof Xr (i.val / 8192) (j.val / 128)) (i.val % 8192 / 1024) 1 ⟨i.val % 1024, Nat.mod_lt _ (by decide)⟩ r : ℝ) : EReal) := fun r => by
    rw [oH_real X Xr hX _ l hlam, quo_eq, quo_eq, hlE]
    simp only [hq]
  simp only [ho]
  rfl

end

/-- The weight is real when its vectors are. -/
theorem lam_real (f : Fin 4 → Fin 64 → EReal) (g : Fin 4 → Fin 64 → ℝ) (hg : ∀ a d, f a d = (g a d : EReal)) : ∃ l : ℝ, lamE f = (l : EReal) := by
  obtain ⟨c, hc⟩ : ∃ c : ℝ, Ideal.ofBits .f32 0x3EB60549#32 = (c : EReal) := by
    simp [Ideal.ofBits, Ideal.ieee]
    exact ⟨_, (EReal.coe_mul _ _).symm⟩
  refine ⟨Real.exp (∑ d, g 0 d * g 1 d) - Real.exp (∑ d, g 2 d * g 3 d) + c, ?_⟩
  unfold lamE
  rw [hc, EReal.coe_add, EReal.coe_sub, ← Ideal.exp_coe, ← Ideal.exp_coe, coe_sum, coe_sum]
  simp only [hg, EReal.coe_mul]

end Cert.Attn.Ref

end
-- ==== Proof.Attn.Pre.lean ====
/- What the precondition says of the arguments: their entries are real. -/
module

public import proofs.«01_k».proof.Defs
public import proofs.«01_k».proof.Proof.Gen.Pre_finite
public import Idealize.ShloMosaic.Lib.Pointwise
public import Idealize.ShloMosaic.Lib.ReduceAll

@[expose] public section

set_option maxRecDepth 16384

noncomputable section

namespace Cert.Attn.Pre

open Idealize.ShloMosaic Cert.Pre_finite Cert.Pre_finite.Gen

/-- A value whose absolute value compares below the word of +∞ is real. -/
theorem real_of_lt {x : EReal} (h : FloatOps.cmpf (F := Ideal) (φ := .f32) .olt (FloatOps.absf (F := Ideal) (φ := .f32) x) (FloatOps.ofBits .f32 0x7F800000#32) = 1#1) : ∃ r : ℝ, x = r := by
  have e : Ideal.ofBits .f32 0x7F800000#32 = (⊤ : EReal) := by simp [Ideal.ofBits, Ideal.ieee]
  rw [Ideal.cmpf_def, Ideal.absf_def, Ideal.ofBits_def, e] at h
  have h' : max x (-x) < ⊤ := by
    by_contra hn
    simp [Ideal.cmp, hn] at h
  induction x with
  | bot => simp at h'
  | top => simp at h'
  | coe r => exact ⟨r, rfl⟩

/-- Under the precondition the read columns and the weight's vectors are real. -/
theorem reals (X : FVec Ideal S32768x5120 .bf16) (L : FVec Ideal S4x64 .f32) (W : FVec Ideal S128x1 .f32)
    (h : Cert.Pre_finite.fn (F := Ideal) X L W = fun _ => 1#1) :
    (∀ (i : Fin 32768) (j : Fin 5120), j.val < 4608 → ∃ r : ℝ, X (ix2 i j) = r) ∧ ∀ (a : Fin 4) (d : Fin 64), ∃ r : ℝ, L (ix2 a d) = r := by
  have h0 := congrFun h ix0
  dsimp only [Cert.Pre_finite.fn] at h0
  have h1 := IntOp.andi_eq_one.mp h0
  refine ⟨fun i j hj => ?_, fun a d => ?_⟩
  · have h2 := Host.reduce_andi_all _ _ _ _ _ h1.1 (ix2 i (⟨j.val, hj⟩ : Fin 4608))
    obtain ⟨r, hr⟩ := real_of_lt h2
    refine ⟨r, Eq.trans (congrArg X (funext fun a => Fin.ext ?_)) hr⟩
    match a with
    | ⟨0, _⟩ => show i.val = 0 + i.val; omega
    | ⟨1, _⟩ => show j.val = 0 + j.val; omega
  · exact real_of_lt (Host.reduce_andi_all _ _ _ _ _ h1.2 (ix2 a d))

end Cert.Attn.Pre

end
-- ==== Proof.Attn.Claims.lean ====
/- The reference's frame, and the equality of the two results over the reals. -/
module

public import proofs.«01_k».proof.Proof.Attn.RefArr
public import proofs.«01_k».proof.Proof.Attn.Pre
public import Idealize.ShloMosaic.Lib.Quiescent

@[expose] public section

set_option maxRecDepth 16384

noncomputable section

namespace Cert.Attn

open Idealize.ShloMosaic Idealize.ShloMosaic.TcCoe Idealize.SL.Sem

/-- The reference runs, keeps its arguments and leaves no semaphore counted. -/
theorem frame_ref (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, Idealize.ShloMosaic.sem_eq_zero_of_no_sems (by decide) r.2⟩) (Cert.ReferenceIdeal.Value.run m ρ)

/-- **Over the reals the kernel and the reference end with one result.** -/
theorem value : Cert.algebraic_KernelIdeal_ReferenceIdeal_pre_finite := by
  intro m ρ m' ρ' hpre hag
  have hr := fun c => Pre.reals _ _ _ (hpre c)
  choose xr lr using hr
  let Xr : Dev Cert.KernelIdeal.nD → ℕ → ℕ → ℝ := fun c i j =>
    if h : i < 32768 ∧ j < 4608 then (xr c ⟨i, h.1⟩ ⟨j, by omega⟩ h.2).choose else 0
  have hX : ∀ (c : Dev Cert.KernelIdeal.nD) (i : Fin 32768) (j : Fin 5120), j.val < 4608 →
      m ((c : Thread Cert.KernelIdeal.nD Cert.KernelIdeal.τ).loc Cert.KernelIdeal.main_arg0) (ix2 i j) = ((Xr c i.val j.val : ℝ) : EReal) := fun c i j hj => by
    refine (xr c i j hj).choose_spec.trans (congrArg _ ?_)
    show _ = dite _ _ _
    rw [dif_pos ⟨i.isLt, hj⟩]
  have hl : ∀ c : Dev Cert.KernelIdeal.nD, ∃ l : ℝ, lamE (fun a d => m ((c : Thread Cert.KernelIdeal.nD Cert.KernelIdeal.τ).loc Cert.KernelIdeal.main_arg1) (ix2 a d)) = (l : EReal) := fun c =>
    Ref.lam_real _ (fun a d => (lr c a d).choose) fun a d => (lr c a d).choose_spec
  refine ⟨fun c => arrE (Xr c) (m ((c : Thread Cert.KernelIdeal.nD Cert.KernelIdeal.τ).loc Cert.KernelIdeal.main_arg1)) (m ((c : Thread Cert.KernelIdeal.nD Cert.KernelIdeal.τ).loc Cert.KernelIdeal.main_arg2)), ?_, ?_⟩
  · refine (θ_run _ _ _).mono (fun r h c => ⟨(h c).1.trans (final m c (Xr c) fun i j hj => ?_), (h c).2⟩) (Cert.KernelIdeal.Value.run_blocks m ρ)
    rw [← ix2_eq_valueIdx]
    exact hX c i j hj
  · refine (θ_run _ _ _).mono (fun r h c => ⟨(h c).1.trans ?_, (h c).2⟩) (Cert.ReferenceIdeal.Value.run m' ρ')
    obtain ⟨l, hlc⟩ := hl c
    obtain ⟨e0, e1, e2⟩ := hag c
    refine (Ref.res_eq m' c).trans ?_
    rw [e0, e1, e2]
    exact Ref.outH_eq _ _ _ (Xr c) (hX c) l hlc

end Cert.Attn

end
-- ==== Proof.Proj.Body.lean ====
/- The input projection of layer 0: one run of the kernel's body on its staging buffers. -/
module

public import proofs.«01_k».proof.Proof.Gen.Kernel2Ideal.Skeleton
public import proofs.«01_k».proof.Proof.Gen.Kernel2Ideal.Frame
public import Idealize.ShloMosaic.Lib.VecWindow

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

/-- The condition under which the body normalises its rows: the second grid coordinate is 0. -/
abbrev first (i : grid0.Coords) : Prop := k0_cond1 i = 1#1

/-- It holds at every tenth point. -/
theorem first_iff : ∀ t : Fin cfg0.N, first (grid0.coords t) ↔ t.val % 10 = 0 :=
  (fun t => by
    have ht : t.val < 320 := Nat.lt_of_lt_of_eq t.isLt N_0
    have e0 : (grid0.coords t 0).val = t.val / 10 % 32 := Pipeline.Grid.coords_val t 0 (by decide) rfl
    have e1 : (grid0.coords t 1).val = t.val / 1 % 10 := Pipeline.Grid.coords_val t 1 (by decide) rfl
    simp only [first, k0_cond1, e0, e1]
    word_cmp
   : ∀ t : Fin grid0.N, first (grid0.coords t) ↔ t.val % 10 = 0)

section
variable (c : Dev nD) (i : grid0.Coords) (arg2 : Memref sig .tc .vmem S1024x2048 .f32) (harg2 : arg2.IsWhole)
  (arg3 : Memref sig .tc .vmem S1x2048 .f32) (harg3 : arg3.IsWhole) (arg4 : Memref sig .tc .vmem S2048x512 .bf16) (harg4 : arg4.IsWhole)
  (arg5 : Memref sig .tc .vmem S2048x128 .bf16) (harg5 : arg5.IsWhole) (arg6 : Memref sig .tc .vmem S1024x512 .bf16) (harg6 : arg6.IsWhole)
  (arg7 : Memref sig .tc .vmem S1024x128 .f32) (harg7 : arg7.IsWhole) (arg8 : Memref sig .tc .vmem S1x1024x2048 .bf16) (harg8 : arg8.IsWhole)
  (x0 : Vec F S1024x2048 .f32) (x1 : Vec F S1x2048 .f32) (x2 : Vec F S2048x512 .bf16) (x3 : Vec F S2048x128 .bf16)

set_option maxHeartbeats 1000000 in
/-- At the first column block the body normalises its rows into the scratch array, and leaves their product with the
    weights' block. -/
theorem run_first (hc : first i) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay3 (k0_pay1 x0 x1) x2)
            ∗ (∃ d, owns (c : Thread nD τ) arg7 fullShare d) ∗ owns (c : Thread nD τ) arg8 fullShare (k0_pay1 x0 x1)) -∗ K ⟨⟩))
      ⊢ wp frame (wpE (defs₀ (F := F)) Variants.none c none) E
          (cc0_norm_proj i arg2 harg2 arg3 harg3 arg4 harg4 arg5 harg5 arg6 harg6 arg7 harg7 arg8 harg8) K := by
  simp only [cc0_norm_proj_eq_skeleton]; unfold cc0_norm_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    unfold run_first.sl.v28 run_first.sl.HS0_1
    rw [View.readCov_full, View.readAt_full arg4.view, View.readAt_full arg2.view, View.readAt_full arg3.view, hf0, hf1, hf2]
  isplitl [H5]
  · iexists _, _; isplitr; swap; · iexact H5
    ipureintro; rfl
  iexists _; isplitr; swap; · iexact HS0
  ipureintro
  unfold run_first.sl.HS0_1
  refine (View.read_writes_full _ _ _ _ _).trans ?_
  rw [View.readAt_full arg2.view, View.readAt_full arg3.view, hf0, hf1]

set_option maxHeartbeats 1000000 in
/-- At a later column block the body reads the rows that the scratch array holds, and leaves their product with the
    weights' block. -/
theorem run_later (hc : ¬ first i) (xs : Vec F S1x1024x2048 .bf16) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay3 xs x2)
            ∗ (∃ d, owns (c : Thread nD τ) arg7 fullShare d) ∗ owns (c : Thread nD τ) arg8 fullShare xs) -∗ K ⟨⟩))
      ⊢ wp frame (wpE (defs₀ (F := F)) Variants.none c none) E
          (cc0_norm_proj i arg2 harg2 arg3 harg3 arg4 harg4 arg5 harg5 arg6 harg6 arg7 harg7 arg8 harg8) K := by
  simp only [cc0_norm_proj_eq_skeleton]; unfold cc0_norm_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hs0, HS0⟩, Hk⟩
  obtain rfl := harg2.eq_unread hf0; obtain rfl := harg3.eq_unread hf1; obtain rfl := harg4.eq_unread hf2; obtain rfl := harg5.eq_unread hf3
  obtain rfl := harg8.eq_unread hs0
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    rw [View.readAt_full arg4.view, View.readAt_full arg8.view, hs0, hf2]
  isplitl [H5]
  · iexists _, _; isplitr; swap; · iexact H5
    ipureintro; rfl
  iexists _; isplitr; swap; · iexact HS0
  ipureintro; exact harg8.read_unread _

end

end Cert.Proj

end
-- ==== Proof.Proj.Run.lean ====
/- The input projection of layer 0: the run of the whole grid. The second output (the gates) is kept at some contents that
   nothing names. -/
module

public import proofs.«01_k».proof.Proof.Proj.Body
public import Idealize.ShloMosaic.Lib.Pipeline.Cells
public import Idealize.ShloMosaic.Lib.Claim

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]
variable (m : (ℓ : Loc nD τ sig) → Buf (Elt F) ℓ) (ρ : Dev nD → PrngReg)

/-- The scratch array as a memory reference. -/
abbrev scratch : Memref sig .tc .vmem S1x1024x2048 .bf16 := Memref.whole cc0_scratch0

/-- The scratch array and the random register, at some contents. -/
theorem rest_eq (c : Dev nD) :
    (Pipeline.ΦA spec0 c : sProp (MT nD τ sig Unit (Elt F) ℕ (UR sig nD τ) ℕ))
      = iprop(iprop((∃ d, owns (c : Thread nD τ) scratch fullShare d)) ∗ (∃ r, prngReg c r)) := by
  unfold Pipeline.ΦA; rw [scopedRest0_eq]; simp only [scratch, owns_whole]; try rfl

/-- The normalised rows of point `t`, from the point's own blocks. -/
def rowsAt (c : Dev nD) (t : Fin cfg0.N) : Vec F S1x1024x2048 .bf16 := k0_pay1 (iblk m c 0 t) (iblk m c 1 t)

/-- The block of the projection that point `t` stores. -/
def blockAt (c : Dev nD) (t : Fin cfg0.N) : Vec F S1024x512 .bf16 := k0_pay3 (rowsAt m c t) (iblk m c 2 t)

theorem idx0 : ∀ t : Fin cfg0.N, win0_0.index t (0 : Fin 2) = t.val / 10 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)

/-- Within a row of blocks the tokens' block and the norm's scale do not change. -/
theorem rowsAt_pred (c : Dev nD) (t s : Fin cfg0.N) (h : s.val + 1 = t.val) (ht : t.val % 10 ≠ 0) : rowsAt m c s = rowsAt m c t := by
  have hs : s.val / 10 = t.val / 10 := by omega
  obtain ⟨a0, a1⟩ := idx0 s
  obtain ⟨b0, b1⟩ := idx0 t
  obtain ⟨c0, c1⟩ := idx1 s
  obtain ⟨d0, d1⟩ := idx1 t
  have e0 : (iblk m c 0 s : Vec F S1024x2048 .f32) = iblk m c 0 t := by
    funext y
    show V m c main_arg0 (((cfg0.win 0).blk s).view.emb y) = V m c main_arg0 (((cfg0.win 0).blk t).view.emb y)
    refine congrArg (V m c main_arg0) (funext fun a => Fin.ext ?_)
    match a with
    | ⟨0, _⟩ => show win0_0.index s (0 : Fin 2) * 1024 + 1 * (y 0).val = win0_0.index t (0 : Fin 2) * 1024 + 1 * (y 0).val; omega
    | ⟨1, _⟩ => show win0_0.index s (1 : Fin 2) * 2048 + 1 * (y 1).val = win0_0.index t (1 : Fin 2) * 2048 + 1 * (y 1).val; omega
  have e1 : (iblk m c 1 s : Vec F S1x2048 .f32) = iblk m c 1 t := by
    funext y
    show V m c main_arg1 (((cfg0.win 1).blk s).view.emb y) = V m c main_arg1 (((cfg0.win 1).blk t).view.emb y)
    refine congrArg (V m c main_arg1) (funext fun a => Fin.ext ?_)
    match a with
    | ⟨0, _⟩ => show win0_1.index s (0 : Fin 2) * 1 + 1 * (y 0).val = win0_1.index t (0 : Fin 2) * 1 + 1 * (y 0).val; omega
    | ⟨1, _⟩ => show win0_1.index s (1 : Fin 2) * 2048 + 1 * (y 1).val = win0_1.index t (1 : Fin 2) * 2048 + 1 * (y 1).val; omega
  exact congrArg₂ k0_pay1 e0 e1

/-- Before point `n`: the scratch array at the rows of the point before, and at some contents at the start. -/
def held (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scratch fullShare (rowsAt m c ⟨n, hn⟩)) ∗ (∃ r, prngReg c r))

theorem held_zero (c : Dev nD) (n : ℕ) (h : n ≤ cfg0.N) (hz : n = 0) : held m c n h = Pipeline.ΦA spec0 c := by
  subst hz; rfl

theorem held_pos (c : Dev nD) (n : ℕ) (h : n ≤ cfg0.N) (hz : n ≠ 0) :
    held m c n h = iprop(iprop(owns (c : Thread nD τ) scratch fullShare (rowsAt m c ⟨n - 1, by omega⟩)) ∗ (∃ r, prngReg c r)) := by
  cases n with
  | zero => exact absurd rfl hz
  | succ n => rfl

/-- The only window of which nothing is named: the gates. -/
def gates : Fin cfg0.W → Bool := fun w => w.val == 5

/-- The pipeline's proof data: an input's buffer keeps its block, the projection's buffer holds `blockAt`. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockAt m c t
    | ⟨5, h⟩ => Pipeline.Dat.unnamed (cfg := cfg0) ⟨5, h⟩ t
  Φ t := held m c t.val (Nat.le_of_lt_succ t.isLt)
  q _ := fullShare
  owed _ := 0

theorem data_A (c : Dev nD) (w : Fin cfg0.W) : (data m 0 c).A w = V m c (Pipeline.arrRef spec0 w) := by
  dsimp only [data]

theorem held_castSucc (c : Dev nD) (t : Fin cfg0.N) : (data m 0 c).Φ t.castSucc = held m c t.val (Nat.le_of_lt t.isLt) := by
  dsimp only [data]; exact Pipeline.Dat.Φ_castSucc (held m c) t

theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = blockAt m c t := by dsimp only [data]

theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d
theorem before_3 (c : Dev nD) (t : Fin cfg0.N) (d) : (data m 0 c).before 3 t d = iblk m c 3 t :=
  before0_3_of m (data m 0 c) (data_A m c 3) (after_3 m c) t d

/-- What the body is called with at point `t`. -/
def given (c : Dev nD) (t : Fin cfg0.N) : sProp (MT nD τ sig Unit (Elt F) ℕ (UR sig nD τ) ℕ) :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare d))

/-- What it returns. -/
def returned (c : Dev nD) (t : Fin cfg0.N) : sProp (MT nD τ sig Unit (Elt F) ℕ (UR sig nD τ) ℕ) :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ (∃ d, owns (c : Thread nD τ) (st0_5 t) fullShare d))

set_option maxHeartbeats 800000 in
/-- The body at any point. -/
theorem body_at (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3]
  rw [show (data m 0 c).owesAt () t.succ = (data m 0 c).owesAt () t.castSucc from rfl, after_0, after_1, after_2, after_3, after_4]
  rw [show (data m 0 c).Φ t.succ = iprop(iprop(owns (c : Thread nD τ) scratch fullShare (rowsAt m c t)) ∗ (∃ r, prngReg c r)) from rfl,
    held_castSucc m c t]
  by_cases h0 : t.val % 10 = 0
  · have hΦ : held m c t.val (Nat.le_of_lt t.isLt) ⊢ iprop(iprop((∃ d, owns (c : Thread nD τ) scratch fullShare d)) ∗ (∃ r, prngReg c r)) := by
      by_cases hz : t.val = 0
      · rw [held_zero m c _ _ hz, rest_eq]
      · rw [held_pos m c _ _ hz]
        iintro ⟨HS, Hg⟩
        isplitl [HS]
        · iexists _; iexact HS
        iexact Hg
    unfold blockAt rowsAt
    iintro ⟨HΦ, Ho, ⟨%d0, H0⟩, ⟨%d1, H1⟩, ⟨%d2, H2⟩, ⟨%d3, H3⟩, ⟨%d4, H4⟩, ⟨%d5, H5⟩⟩
    ihave HΦ' := hΦ $$ HΦ
    icases HΦ' with ⟨HS, Hg⟩
    iapply (run_first c (grid0.coords t) _ _ _ _ _ _ _ _ _ _ _ _ _ _ (iblk m c 0 t) (iblk m c 1 t) (iblk m c 2 t) (iblk m c 3 t) ((first_iff t).mpr h0) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun h => h0 (by rw [h])
    rw [held_pos m c _ _ hz, rowsAt_pred m c t ⟨t.val - 1, by omega⟩ (by show t.val - 1 + 1 = t.val; omega) h0]
    unfold blockAt
    iintro ⟨⟨HS, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (iblk m c 0 t) (iblk m c 1 t) (iblk m c 2 t) (iblk m c 3 t) (fun h => h0 ((first_iff t).mp h)) (rowsAt m c t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body that the pipeline calls. -/
theorem body_row (t : Fin cfg0.N) : defs₀ (F := F) .tc cfg0.body (cfg0.bodyArgs t (cfg0.slots t)) = bodyAt0 t := by
  unfold defs₀; rw [Defs.onTc_tc]

/-- The pipeline's condition on the body. -/
theorem body_ok (c : Dev nD) : BodyObligation (data (F := F) m 0 c) (defs₀ (F := F)) Variants.none () Set.univ gates := fun t => by
  rw [bigSep_W0, bigSep_W0, body_row]
  exact triple_restated (body_at m c t) rfl .rfl fun _ => .rfl

theorem held_in (c : Dev nD) : Pipeline.ΦA spec0 c ⊢ (data m 0 c).Φ 0 := by
  rw [show (data m 0 c).Φ 0 = held m c 0 (Nat.zero_le _) from rfl, held_zero m c 0 _ rfl]
  try exact Idealize.SL.BI.Entails.refl _

theorem held_out (c : Dev nD) : (data m 0 c).Φ (Fin.last cfg0.N) ⊢ Pipeline.ΦA spec0 c := by
  rw [show (data m 0 c).Φ (Fin.last cfg0.N) = held m c cfg0.N le_rfl from rfl, held_pos m c _ _ (by rw [show cfg0.N = 320 from N_0]; decide), rest_eq]
  iintro ⟨HS, Hg⟩
  isplitl [HS]
  · iexists _; iexact HS
  iexact Hg

set_option backward.isDefEq.respectTransparency.types false in
/-- The run of @main: every array but the gates at what the proof data say, every semaphore at zero. -/
theorem run_main : θ_run defs (onTc (τ := τ) (main (F := F))) (s₀ m ρ)
    (fun r => (Pipeline.RDat.FramePost (cfgs 0) (fun c => (data m 0 c).toRForget gates) (V m)) r ∧ r.2.sem = fun _ => 0) :=
  Pipeline.θ_run_frame_track_forget (Q' := _) cfgs (data m) (0 : Fin 1) launch0 defs₀ Variants.none gates m ρ main
    (hbody := fun c => (body_ok m c).loose) (hshare := fun c => (data m 0 c).share_full fun _ => rfl)
    (howed := fun _ _ => rfl) (V := V m) (hmain := hmain m Variants.none) (hA := data_A m) (hin := held_in m) (hout := held_out m)

end Cert.Proj

end
-- ==== Proof.Proj.Frame.lean ====
/- The input projection of layer 0: the frame of the kernel at any reading of the floats. -/
module

public import proofs.«01_k».proof.Defs
public import proofs.«01_k».proof.Proof.Proj.Run
public import proofs.«01_k».proof.Proof.Gen.Kernel2.Frame

@[expose] public section

set_option maxRecDepth 16384

noncomputable section

namespace Cert.Proj

open Idealize.ShloMosaic Idealize.ShloMosaic.TcCoe Idealize.SL.Sem

section
open Cert.Kernel2Ideal Cert.Kernel2Ideal.Gen

variable {F : FTy → Type} [FloatOps F]

/-- The kernel runs, keeps its arguments and leaves no semaphore counted, whatever the floats are. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c =>
      ⟨(Pipeline.RDat.FramePost.arr_in h.1 c 0 rfl).trans ((data_A m c 0).trans (V_main_arg0 m c)),
      (Pipeline.RDat.FramePost.arr_in h.1 c 1 rfl).trans ((data_A m c 1).trans (V_main_arg1 m c)),
      ((h.1 c).2 main_arg2 (Pipeline.mem_restRefs_of main_arg2 (by decide) (by decide))).trans (V_main_arg2 m c)⟩, h.2⟩)
    (run_main m ρ)

end

section
open Cert.Kernel2 Cert.Kernel2.Gen

/-- The two modules' body tables are one table at the machine's floats. -/
theorem bodies_eq : Cert.Kernel2.defs₀ (F := Bits) = Cert.Kernel2Ideal.defs₀ (F := Bits) := by
  unfold Cert.Kernel2.defs₀ Cert.Kernel2Ideal.defs₀
  refine congrArg (Defs.onTc (nD := 1) (τ := τ) (sig := sig) (Λ := Λ₀) (Val := Elt Bits)) ?_
  funext l a
  match l, a with
  | 0, (t, s) => rfl

/-- So are the tables with the call's region and pipeline. -/
theorem tables_eq : Cert.Kernel2.defs (F := Bits) = Cert.Kernel2Ideal.defs (F := Bits) := by
  unfold Cert.Kernel2.defs Cert.Kernel2Ideal.defs
  exact congrArg (Pipeline.defs (pcfgs (F := Bits))) bodies_eq

/-- The printed program is the program above under another name: it runs at the machine's floats, keeps its arguments and
    leaves no semaphore counted. -/
theorem frame_bits (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  tables_eq ▸ frame_any (F := Bits) m ρ

end

end Cert.Proj

end
-- ==== Proof.Proj.Pay.lean ====
/- The input projection of layer 0: the values that a block holds, at an index. -/
module

public import proofs.«01_k».proof.Proof.Gen.Kernel2Ideal.Skeleton
public import proofs.«01_k».proof.Proof.Gen.Reference2Ideal.Run
public import Idealize.ShloMosaic.Lib.Pointwise
public import Idealize.ShloMosaic.Lib.Pointwise.IndexBridge

@[expose] public section

set_option maxRecDepth 16384

noncomputable section

namespace Cert.Proj

open Idealize.ShloMosaic Idealize.ShloMosaic.TcCoe Idealize.SL.Sem

/-- The factor of a row: the reciprocal root of its mean square and the small constant. -/
def factor (x : Fin 2048 → EReal) : EReal :=
  Ideal.rsqrt (Ideal.div (∑ k : Fin 2048, x k * x k) (Ideal.ofBits .f32 0x45000000#32) + Ideal.ofBits .f32 0x358637BD#32)

section
open Cert.Kernel2Ideal Cert.Kernel2Ideal.Gen

/-- A normalised row of a block. -/
theorem rows_apply (x : Vec Ideal S1024x2048 .f32) (n : Vec Ideal S1x2048 .f32) (q : Fin 1024) (k : Fin 2048) :
    k0_pay1 x n (ix3 0 q k) = x (ix2 q k) * factor (fun l => x (ix2 q l)) * n (ix2 0 k) := by
  pointwise [k0_pay1, factor]

/-- A block of the product. -/
theorem block_apply (h : Vec Ideal S1x1024x2048 .bf16) (w : Vec Ideal S2048x512 .bf16) (q : Fin 1024) (j : Fin 512) :
    k0_pay3 h w (ix2 q j) = ∑ k : Fin 2048, h (ix3 0 q k) * w (ix2 k j) := by
  pointwise [k0_pay3]

end

section
open Cert.Reference2Ideal Cert.Reference2Ideal.Gen

variable (X : FVec Ideal S32768x2048 .f32) (N : FVec Ideal S1x2048 .f32) (W : FVec Ideal S2048x5132 .f32)

/-- The reference's normalised tokens. -/
def refRows : FVec Ideal S32768x2048 .f32 :=
  mulf (mulf X (broadcastInDim S32768x2048 ![0, 1] bcast_S32768x1_S32768x2048_0_1 (Host.rsqrt (addf (Host.divf (broadcastInDim S32768x1 ![0] bcast_S32768_S32768x1_0 (Host.reduceAdd (mulf X X) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32))))))
    (broadcastInDim S32768x2048 ![0, 1] bcast_S1x2048_S32768x2048_0_1 (broadcastInDim S1x2048 ![1] bcast_S2048_S1x2048_1 (shapeCast _ N shapeCasts_S1x2048_S2048)))

/-- Their product with the whole weight matrix. -/
def refProd : FVec Ideal S32768x5132 .f32 :=
  Host.dotGeneral dot_S32768x2048_S2048x5132_S32768x5132_1_0_0_1_n_n none (refRows X N) W

/-- What the reference computes: the product without the gates' columns. -/
def refArr : FVec Ideal S32768x5120 .bf16 :=
  truncf .bf16 (concatenate S32768x5120 1 [⟨S32768x4608, extractStridedSlice S32768x4608 ![0, 0] (refProd X N W) slices_S32768x5132_S32768x4608_0_0⟩,
    ⟨S32768x512, extractStridedSlice S32768x512 ![0, 4620] (refProd X N W) slices_S32768x5132_S32768x512_0_4620⟩] concatenates_S32768x4608_S32768x512_S32768x5120_d1) bitsLt_bf16_f32

/-- A normalised token. -/
theorem refRows_apply (i : Fin 32768) (k : Fin 2048) :
    refRows X N (ix2 i k) = X (ix2 i k) * factor (fun l => X (ix2 i l)) * N (ix2 0 k) := by
  pointwise [refRows, factor]

theorem refProd_apply (i : Fin 32768) (j : Fin 5132) :
    refProd X N W (ix2 i j) = ∑ k : Fin 2048, refRows X N (ix2 i k) * W (ix2 k j) := by
  pointwise [refProd]

/-- The column of the whole weight matrix behind a column of the result: the gates' twelve are passed over. -/
def col (j : Fin 5120) : Fin 5132 := if j.val < 4608 then ⟨j.val, by omega⟩ else ⟨j.val + 12, by omega⟩

theorem refArr_left (i : Fin 32768) (j : Fin 4608) :
    refArr X N W (ix2 i (⟨j.val, by omega⟩ : Fin 5120)) = refProd X N W (ix2 i (⟨j.val, by omega⟩ : Fin 5132)) := by
  pointwise [refArr]

theorem refArr_right (i : Fin 32768) (j : Fin 512) :
    refArr X N W (ix2 i (⟨4608 + j.val, by omega⟩ : Fin 5120)) = refProd X N W (ix2 i (⟨4620 + j.val, by omega⟩ : Fin 5132)) := by
  pointwise [refArr]

/-- **The projection** at a token and a column. -/
def proj (i : Fin 32768) (j : Fin 5120) : EReal :=
  ∑ k : Fin 2048, (X (ix2 i k) * factor (fun l => X (ix2 i l)) * N (ix2 0 k)) * W (ix2 k (col j))

theorem refArr_col (i : Fin 32768) (j : Fin 5120) : refArr X N W (ix2 i j) = refProd X N W (ix2 i (col j)) := by
  unfold col
  by_cases h : j.val < 4608
  · rw [if_pos h]
    exact refArr_left X N W i ⟨j.val, h⟩
  · rw [if_neg h]
    have hj : j = (⟨4608 + (j.val - 4608), by omega⟩ : Fin 5120) := Fin.ext (by show j.val = 4608 + (j.val - 4608); omega)
    have hc : (⟨j.val + 12, by omega⟩ : Fin 5132) = ⟨4620 + (j.val - 4608), by omega⟩ := Fin.ext (by show j.val + 12 = 4620 + (j.val - 4608); omega)
    rw [hc]
    exact (congrArg (fun a => refArr X N W (ix2 i a)) hj).trans (refArr_right X N W i ⟨j.val - 4608, by omega⟩)

/-- The same as an array. -/
def arr : FVec Ideal S32768x5120 .bf16 := fun i => proj X N W (i 0) (i 1)

theorem refArr_apply (i : Fin 32768) (j : Fin 5120) : refArr X N W (ix2 i j) = proj X N W i j := by
  rw [refArr_col, refProd_apply]
  unfold proj
  exact Finset.sum_congr rfl fun k _ => congrArg (· * _) (refRows_apply X N i k)

/-- **The reference's array.** -/
theorem refArr_eq : refArr X N W = arr X N W := by
  funext i
  refine Eq.trans (congrArg (refArr X N W) (funext fun a => ?_)) (refArr_apply X N W (i 0) (i 1))
  fin_cases a <;> rfl

end

section
open Cert.Kernel2Ideal Cert.Kernel2Ideal.Gen

/-- The weight matrix that the kernel is given: the gates' columns cut out. -/
def weights (W : FVec Ideal S2048x5132 .f32) : FVec Ideal S2048x5120 .bf16 :=
  truncf .bf16 (concatenate S2048x5120 1 [⟨S2048x4608, extractStridedSlice S2048x4608 ![0, 0] W slices_S2048x5132_S2048x4608_0_0⟩,
    ⟨S2048x512, extractStridedSlice S2048x512 ![0, 4620] W slices_S2048x5132_S2048x512_0_4620⟩] concatenates_S2048x4608_S2048x512_S2048x5120_d1) bitsLt_bf16_f32

variable (W : FVec Ideal S2048x5132 .f32)

theorem weights_left (k : Fin 2048) (j : Fin 4608) : weights W (ix2 k (⟨j.val, by omega⟩ : Fin 5120)) = W (ix2 k (⟨j.val, by omega⟩ : Fin 5132)) := by
  pointwise [weights]

theorem weights_right (k : Fin 2048) (j : Fin 512) : weights W (ix2 k (⟨4608 + j.val, by omega⟩ : Fin 5120)) = W (ix2 k (⟨4620 + j.val, by omega⟩ : Fin 5132)) := by
  pointwise [weights]

theorem weights_apply (k : Fin 2048) (j : Fin 5120) : weights W (ix2 k j) = W (ix2 k (col j)) := by
  unfold col
  by_cases h : j.val < 4608
  · rw [if_pos h]
    exact weights_left W k ⟨j.val, h⟩
  · rw [if_neg h]
    have hj : j = (⟨4608 + (j.val - 4608), by omega⟩ : Fin 5120) := Fin.ext (by show j.val = 4608 + (j.val - 4608); omega)
    have hc : (⟨j.val + 12, by omega⟩ : Fin 5132) = ⟨4620 + (j.val - 4608), by omega⟩ := Fin.ext (by show j.val + 12 = 4620 + (j.val - 4608); omega)
    rw [hc]
    exact (congrArg (fun a => weights W (ix2 k a)) hj).trans (weights_right W k ⟨j.val - 4608, by omega⟩)

end

end Cert.Proj

end
-- ==== Proof.Proj.Array.lean ====
/- The input projection of layer 0: the array that the kernel leaves, as one function of its arguments. -/
module

public import proofs.«01_k».proof.Proof.Proj.Run
public import proofs.«01_k».proof.Proof.Proj.Pay
public import Idealize.ShloMosaic.Lib.StableHlo.Run

@[expose] public section

set_option maxRecDepth 16384

noncomputable section

namespace Cert.Proj

open Idealize.ShloMosaic Idealize.ShloMosaic.TcCoe Idealize.SL.Sem Cert.Kernel2Ideal Cert.Kernel2Ideal.Gen
open Idealize.ShloMosaic.Pipeline (Dat)

theorem idx2 : ∀ t : Fin cfg0.N, win0_2.index t (0 : Fin 2) = 0 ∧ win0_2.index t (1 : Fin 2) = t.val % 10 := (by decide +kernel : ∀ t : Fin grid0.N, _)
theorem idx4 : ∀ t : Fin cfg0.N, win0_4.index t (0 : Fin 2) = t.val / 10 ∧ win0_4.index t (1 : Fin 2) = t.val % 10 := (by decide +kernel : ∀ t : Fin grid0.N, _)

variable (m : (ℓ : Loc nD τ sig) → Buf (Elt Ideal) ℓ) (ρ : Dev nD → PrngReg) (c : Dev nD)

abbrev mX : Vec Ideal S32768x2048 .f32 := m ((c : Thread nD τ).loc main_arg0)
abbrev mN : Vec Ideal S1x2048 .f32 := m ((c : Thread nD τ).loc main_arg1)
abbrev mW : Vec Ideal S2048x5132 .f32 := m ((c : Thread nD τ).loc main_arg2)

/-- Row `q` of the block that point `t` stores. -/
def row (t : Fin cfg0.N) (q : Fin 1024) : Fin 32768 :=
  ⟨1024 * (t.val / 10) + q.val, by have h : t.val < 320 := t.isLt; have := q.isLt; omega⟩

/-- Column `j` of the block that point `t` stores. -/
def column (t : Fin cfg0.N) (j : Fin 512) : Fin 5120 :=
  ⟨512 * (t.val % 10) + j.val, by have := j.isLt; omega⟩

/-- The weights that the kernel is given. -/
theorem V_v3 : (V m c main_v3 : Vec Ideal S2048x5120 .bf16) = weights (mW m c) := by
  show StableHlo.after (List.flatten [hostOps0, hostOps0_1, hostOps0_2]) _ (Proc.devRef .tc main_v3) = _
  simp only [hostOps0, hostOps0_1, hostOps0_2, List.flatten_cons, List.flatten_nil, List.append_nil, List.cons_append, List.nil_append]
  after_results
  rfl

theorem blk0 (t : Fin cfg0.N) (q : Fin 1024) (k : Fin 2048) : (iblk m c 0 t : Vec Ideal S1024x2048 .f32) (ix2 q k) = mX m c (ix2 (row t q) k) := by
  obtain ⟨e0, e1⟩ := idx0 t
  show V m c main_arg0 (((cfg0.win 0).blk t).view.emb (ix2 q k)) = _
  rw [V_main_arg0]
  refine congrArg (mX m c) (funext fun a => Fin.ext ?_)
  match a with
  | ⟨0, _⟩ => show win0_0.index t (0 : Fin 2) * 1024 + 1 * q.val = 1024 * (t.val / 10) + q.val; omega
  | ⟨1, _⟩ => show win0_0.index t (1 : Fin 2) * 2048 + 1 * k.val = k.val; omega

theorem blk1 (t : Fin cfg0.N) (k : Fin 2048) : (iblk m c 1 t : Vec Ideal S1x2048 .f32) (ix2 0 k) = mN m c (ix2 0 k) := by
  obtain ⟨e0, e1⟩ := idx1 t
  show V m c main_arg1 (((cfg0.win 1).blk t).view.emb (ix2 0 k)) = _
  rw [V_main_arg1]
  refine congrArg (mN m c) (funext fun a => Fin.ext ?_)
  match a with
  | ⟨0, _⟩ => show win0_1.index t (0 : Fin 2) * 1 + 1 * 0 = 0; omega
  | ⟨1, _⟩ => show win0_1.index t (1 : Fin 2) * 2048 + 1 * k.val = k.val; omega

theorem blk2 (t : Fin cfg0.N) (k : Fin 2048) (j : Fin 512) :
    (iblk m c 2 t : Vec Ideal S2048x512 .bf16) (ix2 k j) = mW m c (ix2 k (col (column t j))) := by
  obtain ⟨e0, e1⟩ := idx2 t
  refine Eq.trans ?_ (weights_apply (mW m c) k (column t j))
  show (V m c main_v3 : Vec Ideal S2048x5120 .bf16) (((cfg0.win 2).blk t).view.emb (ix2 k j)) = _
  rw [V_v3]
  refine congrArg (weights (mW m c)) (funext fun a => Fin.ext ?_)
  match a with
  | ⟨0, _⟩ => show win0_2.index t (0 : Fin 2) * 2048 + 1 * k.val = k.val; omega
  | ⟨1, _⟩ => show win0_2.index t (1 : Fin 2) * 512 + 1 * j.val = 512 * (t.val % 10) + j.val; omega

/-- An entry of a block, from the arrays. -/
theorem entry (t : Fin cfg0.N) (x0 : Vec Ideal S1024x2048 .f32) (x1 : Vec Ideal S1x2048 .f32) (x2 : Vec Ideal S2048x512 .bf16)
    (h0 : x0 = iblk m c 0 t) (h1 : x1 = iblk m c 1 t) (h2 : x2 = iblk m c 2 t) (q : Fin 1024) (j : Fin 512) :
    k0_pay3 (k0_pay1 x0 x1) x2 (ix2 q j) = proj (mX m c) (mN m c) (mW m c) (row t q) (column t j) := by
  rw [block_apply]
  unfold proj
  refine Finset.sum_congr rfl fun k _ => ?_
  rw [rows_apply]
  have e0 : ∀ l : Fin 2048, x0 (ix2 q l) = mX m c (ix2 (row t q) l) := fun l => by rw [h0]; exact blk0 m c t q l
  have e1 : x1 (ix2 0 k) = mN m c (ix2 0 k) := by rw [h1]; exact blk1 m c t k
  have e2 : x2 (ix2 k j) = mW m c (ix2 k (col (column t j))) := by rw [h2]; exact blk2 m c t k j
  rw [e1, e2, e0 k, funext e0]

/-- **What point `t` writes back.** -/
theorem flushed_eq (t : Fin cfg0.N) :
    (data m 0 c).flushed 4 t = ((cfg0.win 4).blk t).view.read (Elt Ideal) (arr (mX m c) (mN m c) (mW m c)) := by
  obtain ⟨e0, e1⟩ := idx4 t
  funext y
  obtain ⟨q, j, rfl⟩ : ∃ (q : Fin 1024) (j : Fin 512), y = ix2 q j := ⟨y 0, y 1, funext fun a => by fin_cases a <;> rfl⟩
  have eG : arr (mX m c) (mN m c) (mW m c) (((cfg0.win 4).blk t).view.emb (ix2 q j)) = proj (mX m c) (mN m c) (mW m c) (row t q) (column t j) := by
    refine congrArg₂ (proj (mX m c) (mN m c) (mW m c)) (Fin.ext ?_) (Fin.ext ?_)
    · show win0_4.index t (0 : Fin 2) * 1024 + 1 * q.val = 1024 * (t.val / 10) + q.val; omega
    · show win0_4.index t (1 : Fin 2) * 512 + 1 * j.val = 512 * (t.val % 10) + j.val; omega
  refine Eq.trans ?_ eG.symm
  refine Eq.trans ?_ (entry m c t (iblk m c 0 t) (iblk m c 1 t) (iblk m c 2 t) rfl rfl rfl q j)
  rfl

/-- The blocks cover the result. -/
theorem covered (i : S32768x5120.Idx) : ∃ t : Fin cfg0.N, (cfg0.win 4).flush t = true ∧ i ∈ ((cfg0.win 4).blk t).view.set := by
  have h0 : (i 0).val < 32768 := (i 0).isLt
  have h1 : (i 1).val < 5120 := (i 1).isLt
  have hN : cfg0.N = 320 := N_0
  let t : Fin cfg0.N := ⟨10 * ((i 0).val / 1024) + (i 1).val / 512, by omega⟩
  have ht : t.val = 10 * ((i 0).val / 1024) + (i 1).val / 512 := rfl
  obtain ⟨e0, e1⟩ := idx4 t
  refine ⟨t, flush0_4 t, ?_⟩
  have e : i = ((cfg0.win 4).blk t).view.emb (ix2 (⟨(i 0).val % 1024, by omega⟩ : Fin 1024) (⟨(i 1).val % 512, by omega⟩ : Fin 512)) := by
    funext a
    apply Fin.ext
    match a with
    | ⟨0, _⟩ => show (i 0).val = win0_4.index t (0 : Fin 2) * 1024 + 1 * ((i 0).val % 1024); omega
    | ⟨1, _⟩ => show (i 1).val = win0_4.index t (1 : Fin 2) * 512 + 1 * ((i 1).val % 512); omega
  rw [e]
  exact View.emb_mem_set _ _

/-- **The projection's array.** -/
theorem final : (data m 0 c).arrAt 4 cfg0.N = arr (mX m c) (mN m c) (mW m c) :=
  (data m 0 c).arrAt_eq_of_cover 4 _ (fun t _ => flushed_eq m c t) covered

/-- The kernel ends with the projection, its arguments as launched, no semaphore counted. -/
theorem run_arr : θ_run defs (onTc (τ := τ) (main (F := Ideal))) ⟨m, fun _ => 0, ρ⟩ (fun r => (∀ c : Dev nD,
      r.2.mem ((c.tc : Thread nD τ).loc main_v7_0) = arr (mX m c) (mN m c) (mW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c =>
      ⟨(((data m 0 c).toRForget_arrAt_iff (fgt := gates) (w := 4) rfl _ _).mp ((h.1 c).1 4)).trans (final m c),
      (Pipeline.RDat.FramePost.arr_in h.1 c 0 rfl).trans ((data_A m c 0).trans (V_main_arg0 m c)),
      (Pipeline.RDat.FramePost.arr_in h.1 c 1 rfl).trans ((data_A m c 1).trans (V_main_arg1 m c)),
      ((h.1 c).2 main_arg2 (Pipeline.mem_restRefs_of main_arg2 (by decide) (by decide))).trans (V_main_arg2 m c)⟩, h.2⟩)
    (run_main m ρ)

end Cert.Proj

end
-- ==== Proof.Proj.Claims.lean ====
/- The input projection of layer 0: the frames of kernel and reference, and the equality of the two results over the reals. -/
module

public import proofs.«01_k».proof.Defs
public import proofs.«01_k».proof.Proof.Proj.Array
public import Idealize.ShloMosaic.Lib.Quiescent

@[expose] public section

set_option maxRecDepth 16384

noncomputable section

namespace Cert.Proj

open Idealize.ShloMosaic Idealize.ShloMosaic.TcCoe Idealize.SL.Sem

section
open Cert.Kernel2Ideal Cert.Kernel2Ideal.Gen

/-- The kernel runs, keeps its arguments and leaves no semaphore counted. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h.1 c).2, h.2⟩) (run_arr m ρ)

end

section
open Cert.Reference2Ideal Cert.Reference2Ideal.Gen

/-- The reference runs, keeps its arguments and leaves no semaphore counted. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, Idealize.ShloMosaic.sem_eq_zero_of_no_sems (by decide) r.2⟩) (Value.run m ρ)

end

/-- **Over the reals the kernel and the reference end with one projection.** -/
theorem value : Cert.algebraic_Kernel2Ideal_Reference2Ideal := by
  intro m ρ m' ρ' _ hag
  refine ⟨fun c => arr (mX m c) (mN m c) (mW m c), ?_, ?_⟩
  · exact (θ_run _ _ _).mono (fun r h => h.1) (run_arr m ρ)
  · refine (θ_run _ _ _).mono (fun r h c => ⟨(h c).1.trans ?_, (h c).2⟩) (Cert.Reference2Ideal.Value.run m' ρ')
    obtain ⟨e0, e1, e2⟩ := hag c
    rw [e0, e1, e2]
    exact refArr_eq _ _ _

end Cert.Proj

end
-- ==== Proof.Out.Array.lean ====
/- The output projection: the residual stream that the kernel leaves, as one function of its arguments. -/
module

public import proofs.«01_k».proof.Proof.Gen.Kernel3Ideal.Value
public import Idealize.ShloMosaic.Lib.VecWindow
public import Idealize.ShloMosaic.Lib.ValueIdx
public import Idealize.ShloMosaic.Lib.ValueLayout
public import Idealize.ShloMosaic.Lib.MatmulPlain
public import Idealize.ShloMosaic.PureOps.Ideal.Laws

@[expose] public section

set_option maxRecDepth 16384

noncomputable section

namespace Cert.Out

open Idealize.ShloMosaic Idealize.ShloMosaic.ValueIdx Idealize.ShloMosaic.TcCoe Idealize.SL.Sem Cert.Kernel3Ideal Cert.Kernel3Ideal.Gen
open Idealize.ShloMosaic.Pipeline (Dat)

/-- **The new residual stream**: the old one plus the two mixers' outputs, each times its rows of the weight matrix. -/
def resid (A : Vec Ideal S32768x1536 .bf16) (M : Vec Ideal S32768x512 .bf16) (W : Vec Ideal S2048x2048 .f32) (X : Vec Ideal S32768x2048 .f32)
    (i : Fin 32768) (j : Fin 2048) : EReal :=
  X (ix2 i j) + ((∑ k : Fin 1536, A (ix2 i k) * W (ix2 (⟨k.val, by omega⟩ : Fin 2048) j))
    + ∑ k : Fin 512, M (ix2 i k) * W (ix2 (⟨1536 + k.val, by omega⟩ : Fin 2048) j))

/-- The same as an array. -/
def arr (A : Vec Ideal S32768x1536 .bf16) (M : Vec Ideal S32768x512 .bf16) (W : Vec Ideal S2048x2048 .f32) (X : Vec Ideal S32768x2048 .f32) :
    Vec Ideal S32768x2048 .f32 := fun i => resid A M W X (i 0) (i 1)

/-! ## A block -/

/-- The value stored into a block of the residual stream, at an index. -/
theorem pay_apply (v3 : Vec Ideal S512x1536 .bf16) (v4 : Vec Ideal S1536x2048 .bf16) (v7 : Vec Ideal S512x512 .bf16) (v8 : Vec Ideal S512x2048 .bf16)
    (v12 : Vec Ideal S512x2048 .f32) (q : Fin 512) (j : Fin 2048) :
    k0_pay4 v3 v4 v7 v8 v12 (ix2 q j) = v12 (ix2 q j) + ((∑ k : Fin 1536, v3 (ix2 q k) * v4 (ix2 k j)) + ∑ k : Fin 512, v7 (ix2 q k) * v8 (ix2 k j)) := by
  unfold k0_pay4
  rw [shapeCast_self, shapeCast_self, addf_apply, addf_apply]
  refine congrArg₂ (· + ·) rfl (congrArg₂ (· + ·) ?_ ?_)
  · refine (Ideal.matmul_plain_apply none _ _ _ q j).trans ?_
    exact (congrArg (· + _) Ideal.ofBits_zero_f32).trans (zero_add _)
  · refine (Ideal.matmul_plain_apply none _ _ _ q j).trans ?_
    exact (congrArg (· + _) Ideal.ofBits_zero_f32).trans (zero_add _)

/-- One store that fills the block is what the block holds. -/
theorem canon_one (w : Vec Ideal S512x2048 .f32) (q : Fin 512) (r : Fin 2048) :
    View.canon (Val := Elt Ideal) (e := .f32) [⟨Rect.unit (s := S512x2048) ![0, 0] S512x2048.size inb_S512x2048_S512x2048_0_0, w⟩] (ix2 q r) = w (ix2 q r) := by
  have e : (ix2 q r : S512x2048.Idx) = (Rect.unit (s := S512x2048) ![0, 0] S512x2048.size inb_S512x2048_S512x2048_0_0).emb (ix2 q r) := by
    funext a; apply Fin.ext; fin_cases a
    · show q.val = 0 + 1 * q.val; omega
    · show r.val = 0 + 1 * r.val; omega
  have h := View.canon_cons_emb (Val := Elt Ideal) (e := .f32) (Rect.unit (s := S512x2048) ![0, 0] S512x2048.size inb_S512x2048_S512x2048_0_0) w [] (ix2 q r)
  rw [← e] at h
  exact h

section
variable (c : Dev nD) (i : grid0.Coords)
  (arg1 : Memref sig .tc .vmem S512x1536 .bf16) (harg1 : arg1.IsWhole) (arg2 : Memref sig .tc .vmem S512x512 .bf16) (harg2 : arg2.IsWhole)
  (arg3 : Memref sig .tc .vmem S1536x2048 .bf16) (harg3 : arg3.IsWhole) (arg4 : Memref sig .tc .vmem S512x2048 .bf16) (harg4 : arg4.IsWhole)
  (arg5 : Memref sig .tc .vmem S512x2048 .f32) (harg5 : arg5.IsWhole) (arg6 : Memref sig .tc .vmem S1x2048 .f32) (harg6 : arg6.IsWhole)
  (arg7 : Memref sig .tc .vmem S2048x128 .bf16) (harg7 : arg7.IsWhole) (arg8 : Memref sig .tc .vmem S1x128 .f32) (harg8 : arg8.IsWhole)
  (arg9 : Memref sig .tc .vmem S512x2048 .f32) (harg9 : arg9.IsWhole) (arg10 : Memref sig .tc .vmem S512x128 .f32) (harg10 : arg10.IsWhole)
  (arg11 : Memref sig .tc .vmem S8x512 .f32) (harg11 : arg11.IsWhole) (arg12 : Memref sig .tc .vmem S8x128 .f32) (harg12 : arg12.IsWhole)
  (arg13 : Memref sig .tc .vmem S8x128 .f32) (harg13 : arg13.IsWhole)
  (x0 : Vec Ideal S512x1536 .bf16) (x1 : Vec Ideal S512x512 .bf16) (x2 : Vec Ideal S1536x2048 .bf16) (x3 : Vec Ideal S512x2048 .bf16)
  (x4 : Vec Ideal S512x2048 .f32) (x5 : Vec Ideal S1x2048 .f32) (x6 : Vec Ideal S2048x128 .bf16) (x7 : Vec Ideal S1x128 .f32) (xs0 : Vec Ideal S8x128 .f32)

/-- The value stored, from the blocks that the loads read whole. -/
theorem loads (q : Fin 512) (j : Fin 2048) :
    k0_pay4
      (View.readAt (Elt Ideal) arg1.view (Rect.unit (s := S512x1536) ![0, 0] S512x1536.size inb_S512x1536_S512x1536_0_0).toLoadRect (harg1.unread x0))
      (View.readAt (Elt Ideal) arg3.view (Rect.unit (s := S1536x2048) ![0, 0] S1536x2048.size inb_S1536x2048_S1536x2048_0_0).toLoadRect (harg3.unread x2))
      (View.readAt (Elt Ideal) arg2.view (Rect.unit (s := S512x512) ![0, 0] S512x512.size inb_S512x512_S512x512_0_0).toLoadRect (harg2.unread x1))
      (View.readAt (Elt Ideal) arg4.view (Rect.unit (s := S512x2048) ![0, 0] S512x2048.size inb_S512x2048_S512x2048_0_0).toLoadRect (harg4.unread x3))
      (View.readAt (Elt Ideal) arg5.view (Rect.unit (s := S512x2048) ![0, 0] S512x2048.size inb_S512x2048_S512x2048_0_0).toLoadRect (harg5.unread x4)) (ix2 q j)
    = x4 (ix2 q j) + ((∑ k : Fin 1536, x0 (ix2 q k) * x2 (ix2 k j)) + ∑ k : Fin 512, x1 (ix2 q k) * x3 (ix2 k j)) := by
  rw [View.readAt_full arg1.view, View.readAt_full arg2.view, View.readAt_full arg3.view, View.readAt_full arg4.view, View.readAt_full arg5.view,
    harg1.read_unread, harg2.read_unread, harg3.read_unread, harg4.read_unread, harg5.read_unread]
  exact pay_apply x0 x2 x1 x3 x4 q j

/-- What the first grid point stores. -/
theorem out_A (hc0 : cond0_0 i) (q : Fin 512) (j : Fin 2048) :
    out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (ix2 q j)
      = x4 (ix2 q j) + ((∑ k : Fin 1536, x0 (ix2 q k) * x2 (ix2 k j)) + ∑ k : Fin 512, x1 (ix2 q k) * x3 (ix2 k j)) := by
  refine Eq.trans ?_ (loads arg1 harg1 arg2 harg2 arg3 harg3 arg4 harg4 arg5 harg5 x0 x1 x2 x3 x4 q j)
  unfold out0_A_8
  rw [View.read_writes_junk_eq_canon]
  exact canon_one _ q j

/-- What a later grid point stores. -/
theorem out_B (hc0 : ¬ cond0_0 i) (q : Fin 512) (j : Fin 2048) :
    out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 (ix2 q j)
      = x4 (ix2 q j) + ((∑ k : Fin 1536, x0 (ix2 q k) * x2 (ix2 k j)) + ∑ k : Fin 512, x1 (ix2 q k) * x3 (ix2 k j)) := by
  refine Eq.trans ?_ (loads arg1 harg1 arg2 harg2 arg3 harg3 arg4 harg4 arg5 harg5 x0 x1 x2 x3 x4 q j)
  unfold out0_B_8
  rw [View.read_writes_junk_eq_canon]
  exact canon_one _ q j

end

/-! ## The arrays behind the blocks -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem ext8 : ∀ t : Fin cfg0.N, win0_8.xsize (grid0.coords t) (0 : Fin 2) = 512 ∧ win0_8.xsize (grid0.coords t) (1 : Fin 2) = 2048 :=
  (by decide +kernel : ∀ t : Fin grid0.N, _)

variable (m : (ℓ : Loc nD τ sig) → Buf (Elt Ideal) ℓ) (c : Dev nD)

abbrev mA : Vec Ideal S32768x1536 .bf16 := m ((c : Thread nD τ).loc main_arg0)
abbrev mM : Vec Ideal S32768x512 .bf16 := m ((c : Thread nD τ).loc main_arg1)
abbrev mW : Vec Ideal S2048x2048 .f32 := m ((c : Thread nD τ).loc main_arg2)
abbrev mX : Vec Ideal S32768x2048 .f32 := m ((c : Thread nD τ).loc main_arg3)

/-- Row `q` of block `t`. -/
def row (t : Fin cfg0.N) (q : Fin 512) : Fin 32768 := ⟨512 * t.val + q.val, by have h : t.val < 64 := t.isLt; have := q.isLt; omega⟩

/-- The upper rows of the weight matrix. -/
theorem V_v1 : (V m c main_v1 : Vec Ideal S1536x2048 .bf16)
    = extractStridedSlice S1536x2048 ![0, 0] (truncf (F := Ideal) .bf16 (mW m c) bitsLt_bf16_f32) slices_S2048x2048_S1536x2048_0_0 := by
  show StableHlo.after hostOps0 _ (Proc.devRef .tc main_v1) = _
  after_results

/-- The lower rows of the weight matrix. -/
theorem V_v2 : (V m c main_v2 : Vec Ideal S512x2048 .bf16)
    = extractStridedSlice S512x2048 ![1536, 0] (truncf (F := Ideal) .bf16 (mW m c) bitsLt_bf16_f32) slices_S2048x2048_S512x2048_1536_0 := by
  show StableHlo.after hostOps0 _ (Proc.devRef .tc main_v2) = _
  after_results

theorem blk0 (t : Fin cfg0.N) (q : Fin 512) (k : Fin 1536) : (iblk m c 0 t : Vec Ideal S512x1536 .bf16) (ix2 q k) = mA m c (ix2 (row t q) k) := by
  obtain ⟨e0, e1⟩ := idx0 t
  show V m c main_arg0 (((cfg0.win 0).blk t).view.emb (ix2 q k)) = _
  rw [V_main_arg0]
  refine congrArg (mA m c) (funext fun a => Fin.ext ?_)
  match a with
  | ⟨0, _⟩ => show win0_0.index t (0 : Fin 2) * 512 + 1 * q.val = 512 * t.val + q.val; omega
  | ⟨1, _⟩ => show win0_0.index t (1 : Fin 2) * 1536 + 1 * k.val = k.val; omega

theorem blk1 (t : Fin cfg0.N) (q : Fin 512) (k : Fin 512) : (iblk m c 1 t : Vec Ideal S512x512 .bf16) (ix2 q k) = mM m c (ix2 (row t q) k) := by
  obtain ⟨e0, e1⟩ := idx1 t
  show V m c main_arg1 (((cfg0.win 1).blk t).view.emb (ix2 q k)) = _
  rw [V_main_arg1]
  refine congrArg (mM m c) (funext fun a => Fin.ext ?_)
  match a with
  | ⟨0, _⟩ => show win0_1.index t (0 : Fin 2) * 512 + 1 * q.val = 512 * t.val + q.val; omega
  | ⟨1, _⟩ => show win0_1.index t (1 : Fin 2) * 512 + 1 * k.val = k.val; omega

theorem blk4 (t : Fin cfg0.N) (q : Fin 512) (j : Fin 2048) : (iblk m c 4 t : Vec Ideal S512x2048 .f32) (ix2 q j) = mX m c (ix2 (row t q) j) := by
  obtain ⟨e0, e1⟩ := idx4 t
  show V m c main_arg3 (((cfg0.win 4).blk t).view.emb (ix2 q j)) = _
  rw [V_main_arg3]
  refine congrArg (mX m c) (funext fun a => Fin.ext ?_)
  match a with
  | ⟨0, _⟩ => show win0_4.index t (0 : Fin 2) * 512 + 1 * q.val = 512 * t.val + q.val; omega
  | ⟨1, _⟩ => show win0_4.index t (1 : Fin 2) * 2048 + 1 * j.val = j.val; omega

theorem blk2 (t : Fin cfg0.N) (k : Fin 1536) (j : Fin 2048) :
    (iblk m c 2 t : Vec Ideal S1536x2048 .bf16) (ix2 k j) = mW m c (ix2 (⟨k.val, by omega⟩ : Fin 2048) j) := by
  obtain ⟨e0, e1⟩ := idx2 t
  show (V m c main_v1 : Vec Ideal S1536x2048 .bf16) (((cfg0.win 2).blk t).view.emb (ix2 k j)) = _
  rw [V_v1]
  refine congrArg (mW m c) (funext fun a => Fin.ext ?_)
  match a with
  | ⟨0, _⟩ => show 0 + (win0_2.index t (0 : Fin 2) * 1536 + 1 * k.val) = k.val; omega
  | ⟨1, _⟩ => show 0 + (win0_2.index t (1 : Fin 2) * 2048 + 1 * j.val) = j.val; omega

theorem blk3 (t : Fin cfg0.N) (k : Fin 512) (j : Fin 2048) :
    (iblk m c 3 t : Vec Ideal S512x2048 .bf16) (ix2 k j) = mW m c (ix2 (⟨1536 + k.val, by omega⟩ : Fin 2048) j) := by
  obtain ⟨e0, e1⟩ := idx3 t
  show (V m c main_v2 : Vec Ideal S512x2048 .bf16) (((cfg0.win 3).blk t).view.emb (ix2 k j)) = _
  rw [V_v2]
  refine congrArg (mW m c) (funext fun a => Fin.ext ?_)
  match a with
  | ⟨0, _⟩ => show 1536 + (win0_3.index t (0 : Fin 2) * 512 + 1 * k.val) = 1536 + k.val; omega
  | ⟨1, _⟩ => show 0 + (win0_3.index t (1 : Fin 2) * 2048 + 1 * j.val) = j.val; omega

/-- A row of a block, from the arrays. -/
theorem sums (t : Fin cfg0.N) (x0 : Vec Ideal S512x1536 .bf16) (x1 : Vec Ideal S512x512 .bf16) (x2 : Vec Ideal S1536x2048 .bf16) (x3 : Vec Ideal S512x2048 .bf16)
    (x4 : Vec Ideal S512x2048 .f32) (h0 : x0 = iblk m c 0 t) (h1 : x1 = iblk m c 1 t) (h2 : x2 = iblk m c 2 t) (h3 : x3 = iblk m c 3 t) (h4 : x4 = iblk m c 4 t)
    (q : Fin 512) (j : Fin 2048) :
    x4 (ix2 q j) + ((∑ k : Fin 1536, x0 (ix2 q k) * x2 (ix2 k j)) + ∑ k : Fin 512, x1 (ix2 q k) * x3 (ix2 k j))
    = resid (mA m c) (mM m c) (mW m c) (mX m c) (row t q) j := by
  subst h0 h1 h2 h3 h4
  unfold resid
  refine congrArg₂ (· + ·) (blk4 m c t q j) (congrArg₂ (· + ·) (Finset.sum_congr rfl fun k _ => ?_) (Finset.sum_congr rfl fun k _ => ?_))
  · exact congrArg₂ (· * ·) (blk0 m c t q k) (blk2 m c t k j)
  · exact congrArg₂ (· * ·) (blk1 m c t q k) (blk3 m c t k j)

/-- **What point `t` writes back.** -/
theorem flushed_eq (t : Fin cfg0.N) :
    (dats m 0 c).flushed 8 t = ((cfg0.win 8).blk t).view.read (Elt Ideal) (arr (mA m c) (mM m c) (mW m c) (mX m c)) := by
  obtain ⟨e0, e1⟩ := idx8 t
  funext y
  obtain ⟨q, j, rfl⟩ : ∃ (q : Fin 512) (j : Fin 2048), y = ix2 q j := ⟨y 0, y 1, funext fun a => by fin_cases a <;> rfl⟩
  have eG : arr (mA m c) (mM m c) (mW m c) (mX m c) (((cfg0.win 8).blk t).view.emb (ix2 q j)) = resid (mA m c) (mM m c) (mW m c) (mX m c) (row t q) j := by
    refine congrArg₂ (resid (mA m c) (mM m c) (mW m c) (mX m c)) (Fin.ext ?_) (Fin.ext ?_)
    · show win0_8.index t (0 : Fin 2) * 512 + 1 * q.val = 512 * t.val + q.val; omega
    · show win0_8.index t (1 : Fin 2) * 2048 + 1 * j.val = j.val; omega
  refine Eq.trans ?_ eG.symm
  refine Eq.trans ?_ (sums m c t (iblk m c 0 t) (iblk m c 1 t) (iblk m c 2 t) (iblk m c 3 t) (iblk m c 4 t) rfl rfl rfl rfl rfl q j)
  by_cases h0 : t.val % 64 = 0
  · rw [Value.flushed8_A m c t h0]
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
      (iblk m c 0 t) (iblk m c 1 t) (iblk m c 2 t) (iblk m c 3 t) (iblk m c 4 t) (iblk m c 5 t) (iblk m c 6 t) (iblk m c 7 t) ((hcond0_0 t).mpr h0) q j
  · rw [Value.flushed8_B m c t h0]
    exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _)
      (iblk m c 0 t) (iblk m c 1 t) (iblk m c 2 t) (iblk m c 3 t) (iblk m c 4 t) (iblk m c 5 t) (iblk m c 6 t) (iblk m c 7 t) _ (fun h => h0 ((hcond0_0 t).mp h)) q j

/-- The blocks cover the result. -/
theorem covered (i : S32768x2048.Idx) : ∃ t : Fin cfg0.N, (cfg0.win 8).flush t = true ∧ i ∈ ((cfg0.win 8).blk t).view.set := by
  have h0 : (i 0).val < 32768 := (i 0).isLt
  have h1 : (i 1).val < 2048 := (i 1).isLt
  exact (Value.covered_iff8 i).2 (by omega)

/-- **The result array.** -/
theorem final : (dats m 0 c).arrAt 8 cfg0.N = arr (mA m c) (mM m c) (mW m c) (mX m c) :=
  (dats m 0 c).arrAt_eq_of_cover 8 _ (fun t _ => flushed_eq m c t) covered

end Cert.Out

end
-- ==== Proof.Out.Claims.lean ====
/- The output projection: the reference's array, its frame, and the equality of the two results over the reals. -/
module

public import proofs.«01_k».proof.Defs
public import proofs.«01_k».proof.Proof.Out.Array
public import proofs.«01_k».proof.Proof.Gen.Reference3Ideal.Run
public import Idealize.ShloMosaic.Lib.Pointwise
public import Idealize.ShloMosaic.Lib.Pointwise.IndexBridge
public import Idealize.ShloMosaic.Lib.Quiescent

@[expose] public section

set_option maxRecDepth 16384

noncomputable section

namespace Cert.Out

open Idealize.ShloMosaic Idealize.ShloMosaic.TcCoe Idealize.SL.Sem

section
open Cert.Reference3Ideal Cert.Reference3Ideal.Gen

/-- The two mixers' outputs side by side. -/
def both (A : FVec Ideal S32768x1536 .bf16) (M : FVec Ideal S32768x512 .bf16) : FVec Ideal S32768x2048 .bf16 :=
  concatenate S32768x2048 1 [⟨S32768x1536, A⟩, ⟨S32768x512, M⟩] concatenates_S32768x1536_S32768x512_S32768x2048_d1

/-- What the reference computes. -/
def refArr (A : FVec Ideal S32768x1536 .bf16) (M : FVec Ideal S32768x512 .bf16) (W : FVec Ideal S2048x2048 .f32) (X : FVec Ideal S32768x2048 .f32) :
    FVec Ideal S32768x2048 .f32 :=
  addf X (Host.dotGeneral dot_S32768x2048_S2048x2048_S32768x2048_1_0_0_1_n_n none (extf .f32 (both A M) bitsLt_bf16_f32) W)

variable (A : FVec Ideal S32768x1536 .bf16) (M : FVec Ideal S32768x512 .bf16) (W : FVec Ideal S2048x2048 .f32) (X : FVec Ideal S32768x2048 .f32)

theorem both_left (i : Fin 32768) (k : Fin 1536) : both A M (ix2 i (⟨k.val, by omega⟩ : Fin 2048)) = A (ix2 i k) := by
  pointwise [both]

theorem both_right (i : Fin 32768) (k : Fin 512) : both A M (ix2 i (⟨1536 + k.val, by omega⟩ : Fin 2048)) = M (ix2 i k) := by
  pointwise [both]

/-- The reference's product is the sum of the two parts. -/
theorem refArr_apply (i : Fin 32768) (j : Fin 2048) : refArr A M W X (ix2 i j) = resid A M W X i j := by
  have e : refArr A M W X (ix2 i j) = X (ix2 i j) + ∑ k : Fin 2048, both A M (ix2 i k) * W (ix2 k j) := by
    pointwise [refArr]
  rw [e]
  unfold resid
  refine congrArg₂ (· + ·) (congrArg X (ix2_eq_valueIdx _ _)) ?_
  refine (Fin.sum_univ_add (fun k : Fin (1536 + 512) => both A M (ix2 i k) * W (ix2 k j))).trans ?_
  refine congrArg₂ (· + ·) (Finset.sum_congr rfl fun k _ => congrArg₂ (· * ·) ?_ ?_) (Finset.sum_congr rfl fun k _ => congrArg₂ (· * ·) ?_ ?_)
  · exact (both_left A M i k).trans (congrArg A (ix2_eq_valueIdx _ _))
  · exact congrArg W (ix2_eq_valueIdx _ _)
  · exact (both_right A M i k).trans (congrArg M (ix2_eq_valueIdx _ _))
  · exact congrArg W (ix2_eq_valueIdx _ _)

/-- **The reference's array.** -/
theorem refArr_eq : refArr A M W X = arr A M W X := by
  funext i
  refine Eq.trans (congrArg (refArr A M W X) (funext fun a => ?_)) (refArr_apply A M W X (i 0) (i 1))
  fin_cases a <;> rfl

/-- The reference runs, keeps its arguments and leaves no semaphore counted. -/
theorem frame_ref (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun r h => ⟨fun c => (h c).2, Idealize.ShloMosaic.sem_eq_zero_of_no_sems (by decide) r.2⟩) (Value.run m ρ)

end

/-- **Over the reals the kernel and the reference end with one residual stream.** -/
theorem value : Cert.algebraic_Kernel3Ideal_Reference3Ideal := by
  intro m ρ m' ρ' _ hag
  refine ⟨fun c => arr (mA m c) (mM m c) (mW m c) (mX m c), ?_, ?_⟩
  · refine (θ_run _ _ _).mono (fun r h c => ⟨(h c).1.trans (final m c), (h c).2.2.2.2⟩) (Cert.Kernel3Ideal.Value.run_blocks m ρ)
  · refine (θ_run _ _ _).mono (fun r h c => ⟨(h c).1.trans ?_, (h c).2⟩) (Cert.Reference3Ideal.Value.run m' ρ')
    obtain ⟨e0, e1, e2, e3, -⟩ := hag c
    rw [e0, e1, e2, e3]
    exact refArr_eq _ _ _ _

end Cert.Out

end
-- ==== Proof.lean ====
/- The input projection, the differential attention and the output projection of the layer: frames of the kernels, of their readings over the
   reals and of the references, and the equality of the results over the reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_finite
public import proofs.«01_k».proof.Proof.Attn.Claims
public import proofs.«01_k».proof.Proof.Proj.Frame
public import proofs.«01_k».proof.Proof.Proj.Claims
public import proofs.«01_k».proof.Proof.Out.Claims
public import proofs.«01_k».proof.Proof.Gen.Kernel2.Frame
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import Idealize.ShloMosaic.Adequacy
public import Idealize.ShloMosaic.Init

@[expose] public section

noncomputable section

namespace Cert.Proof

/-- All the claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_finite.Gen.facts,
    fun m ρ _ => Cert.Kernel.Gen.frame m ρ, fun m ρ _ => Cert.KernelIdeal.Gen.frame m ρ, fun m ρ _ => Cert.KernelIdeal.Gen.frame m ρ,
    fun m ρ _ => Cert.Attn.frame_ref m ρ, fun m ρ _ => Cert.Attn.frame_ref m ρ,
    fun m ρ _ => Cert.Proj.frame_bits m ρ, fun m ρ _ => Cert.Proj.frame m ρ, fun m ρ _ => Cert.Proj.frame_ref m ρ,
    fun m ρ _ => Cert.Kernel3.Gen.frame m ρ, fun m ρ _ => Cert.Kernel3Ideal.Gen.frame m ρ, fun m ρ _ => Cert.Out.frame_ref m ρ,
    trivial, Cert.Attn.value, trivial, Cert.Proj.value, trivial, Cert.Out.value⟩

end Cert.Proof

end
